-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x512 : Shape := ⟨2, ![2, 512]⟩
abbrev S4x2x512 : Shape := ⟨3, ![4, 2, 512]⟩
abbrev S3 : Shape := ⟨1, ![3]⟩
abbrev S_ : Shape := ⟨0, ![]⟩
abbrev S512 : Shape := ⟨1, ![512]⟩
abbrev S1x512 : Shape := ⟨2, ![1, 512]⟩
abbrev S1x1x512 : Shape := ⟨3, ![1, 1, 512]⟩
abbrev S1 : Shape := ⟨1, ![1]⟩
abbrev S1x2x512 : Shape := ⟨3, ![1, 2, 512]⟩
abbrev S4x1x512 : Shape := ⟨3, ![4, 1, 512]⟩
abbrev S4x512 : Shape := ⟨2, ![4, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .bf16⟩
  | .hbm, ⟨1, _⟩ => ⟨S2x512, .f32⟩
  | .local _ .vmem, ⟨0, _⟩ => ⟨S1024x512, .bf16⟩
  | .local _ .vmem, ⟨1, _⟩ => ⟨S2x512, .f32⟩
  | .local _ .vmem, ⟨2, _⟩ => ⟨S4x2x512, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v38 : BitVec 32 := Scalar.addi v2 c1_i32_21
  let c4_i32_22 : BitVec 32 := 4#32
  let v39 : BitVec 32 := Scalar.remsi v38 c4_i32_22
  let c1_i32_27 : BitVec 32 := 1#32
  let v40 : BitVec 32 := Scalar.muli v39 c1_i32_27
  let v41 : BitVec 32 := Scalar.addi c0_i32_28 v40
  v41.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_33 : BitVec 32 := 2#32
  let v50 : BitVec 32 := Scalar.addi v2 c2_i32_33
  let c4_i32_34 : BitVec 32 := 4#32
  let v51 : BitVec 32 := Scalar.remsi v50 c4_i32_34
  let c1_i32_39 : BitVec 32 := 1#32
  let v52 : BitVec 32 := Scalar.muli v51 c1_i32_39
  let v53 : BitVec 32 := Scalar.addi c0_i32_40 v52
  v53.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_45 : BitVec 32 := 3#32
  let v62 : BitVec 32 := Scalar.addi v2 c3_i32_45
  let c4_i32_46 : BitVec 32 := 4#32
  let v63 : BitVec 32 := Scalar.remsi v62 c4_i32_46
  let c1_i32_51 : BitVec 32 := 1#32
  let v64 : BitVec 32 := Scalar.muli v63 c1_i32_51
  let v65 : BitVec 32 := Scalar.addi c0_i32_52 v64
  v65.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .i32⟩
  | .hbm, ⟨2, _⟩ => ⟨S_, .bf16⟩
  | .hbm, ⟨3, _⟩ => ⟨S_, .i32⟩
  | .hbm, ⟨4, _⟩ => ⟨S512, .bf16⟩
  | .hbm, ⟨5, _⟩ => ⟨S512, .i32⟩
  | .hbm, ⟨6, _⟩ => ⟨S512, .f32⟩
  | .hbm, ⟨7, _⟩ => ⟨S_, .bf16⟩
  | .hbm, ⟨8, _⟩ => ⟨S512, .bf16⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S2x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.IdealRun.Protocol.lean ====
/-
# The exchange of block results between four devices: cells, contents and schedule

Every device reduces its own block to a row of maxima and a row of indices, keeps the pair in slot 0 of a four-slot buffer,
and copies slot 0 into one slot of each of the three other devices: device `c`'s copy number `k` goes to `peer k c`, the
device `k + 1` places further round the ring, and lands there in slot `4 - (k + 1)`. So slot `o` of a device ends up with
the pair of the device `o` places further round.

Before copying, every device signals the barrier semaphore of the three others and waits for three units on its own. A
signal hands over the slot the device signalled will write into.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.ValueIdxCore
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTok pointsTo_toks)
open Idealize.ShloMosaic.Ring (pointsTo_blocks pointsTo_blocks_join_exists lead_disjoint lead_cover)

variable {F : FTy → Type} [FloatOps F]

/-- The resource algebra of the exchange's rounds: three duty names. -/
abbrev UB : Type := URounds (GSem nD τ sig) (Fin 3)
/-- The pipeline library's resources beside the exchange's. -/
abbrev UU : Type := UR sig nD τ × UB

local notation "𝕄" => MT nD τ sig Unit (Elt F) ℕ UU ℕ

/-- Where the pipeline library's resources live. -/
abbrev EP : Emb (UR sig nD τ) (MT nD τ sig Unit (Elt F) ℕ UU ℕ) := embL
/-- Where the exchange's resources live. -/
abbrev ER : Emb UB (MT nD τ sig Unit (Elt F) ℕ UU ℕ) := embR

variable (m : (ℓ : Loc nD τ sig) → Buf (Elt F) ℓ) (ρ : Dev nD → PrngReg)

/-- The state at launch: any memory, every semaphore counter zero, any generator registers. -/
def s₀ : MemSt nD τ sig (Elt F) := ⟨m, fun _ => 0, ρ⟩

/-! ## The ring of devices -/

set_option backward.proofsInPublic true in
/-- The device `o` places further round the ring. -/
def offs (o : Fin 4) (c : Dev nD) : Dev nD := ⟨(c.val + o.val) % 4, Nat.mod_lt _ (by decide)⟩

/-- The device copy number `k` goes to. -/
abbrev peer (k : Fin 3) (c : Dev nD) : Dev nD := offs k.succ c

/-- Going `k + 1` places and then `3 - k` places leads all the way round. -/
theorem peer_rev (k : Fin 3) (c : Dev nD) : peer k.rev (peer k c) = c := by revert k c; decide
/-- The same in the other order. -/
theorem peer_rev' (k : Fin 3) (c : Dev nD) : peer k (peer k.rev c) = c := by revert k c; decide
/-- No place further is the device itself. -/
theorem offs_zero (c : Dev nD) : offs 0 c = c := by revert c; decide

/-- Going `k + 1` places is a permutation of the devices. -/
def peerEquiv (k : Fin 3) : Dev nD ≃ Dev nD := ⟨peer k, peer k.rev, peer_rev k, peer_rev' k⟩
/-- Reversing the copies' numbers is a permutation. -/
def revEquiv : Fin 3 ≃ Fin 3 := ⟨Fin.rev, Fin.rev, Fin.rev_rev, Fin.rev_rev⟩

/-- The device the kernel's first signal names. -/
theorem dev1_eq (c : Dev nD) : (⟨k0_dev1 c, k0_dev1_lt c⟩ : Dev nD) = peer 0 c := Fin.ext (k0_dev1_eq c)
/-- The device the kernel's second signal names. -/
theorem dev2_eq (c : Dev nD) : (⟨k0_dev2 c, k0_dev2_lt c⟩ : Dev nD) = peer 1 c := Fin.ext (k0_dev2_eq c)
/-- The device the kernel's third signal names. -/
theorem dev3_eq (c : Dev nD) : (⟨k0_dev3 c, k0_dev3_lt c⟩ : Dev nD) = peer 2 c := Fin.ext (k0_dev3_eq c)
/-- The device the kernel's first copy names. -/
theorem dev4_eq (c : Dev nD) : (⟨k0_dev4 c, k0_dev4_lt c⟩ : Dev nD) = peer 0 c := Fin.ext (k0_dev4_eq c)
/-- The device the kernel's second copy names. -/
theorem dev5_eq (c : Dev nD) : (⟨k0_dev5 c, k0_dev5_lt c⟩ : Dev nD) = peer 1 c := Fin.ext (k0_dev5_eq c)
/-- The device the kernel's third copy names. -/
theorem dev6_eq (c : Dev nD) : (⟨k0_dev6 c, k0_dev6_lt c⟩ : Dev nD) = peer 2 c := Fin.ext (k0_dev6_eq c)

/-! ## Buffers, slots and semaphore cells -/

/-- The staged block of the argument. -/
abbrev xM : Memref sig .tc .vmem S1024x512 .bf16 := Memref.whole cc0_stg0_0
/-- The staged result. -/
abbrev oM : Memref sig .tc .vmem S2x512 .f32 := Memref.whole cc0_stg1_0
/-- The four-slot buffer. -/
abbrev gM : Memref sig .tc .vmem S4x2x512 .f32 := Memref.whole cc0_scratch0

/-- Slot `o` lies in the buffer. -/
theorem slot_inb (o : Fin 4) : ∀ a, (![o.val, 0, 0] : Fin 3 → Nat) a + S1x2x512.size a ≤ S4x2x512.size a := by
  revert o; decide
/-- The rectangle of slot `o`. -/
abbrev slotR (o : Fin 4) : Rect S4x2x512 := Rect.unit (s := S4x2x512) ![o.val, 0, 0] S1x2x512.size (slot_inb o)
/-- Slot `o` as the kernel's copies name it. -/
abbrev slotM (o : Fin 4) : Memref sig .tc .vmem S2x512 .f32 :=
  (gM.slice (slotR o) (fun _ => rfl)).squeeze S2x512 squeezes_S1x2x512_S2x512

/-- The elements of slot `o`. -/
theorem slot_set (o : Fin 4) : (slotM o).view.set = (slotR o).set :=
  (View.set_reshape ((View.whole cc0_scratch0).slice (slotR o)) squeezes_S1x2x512_S2x512.numel_eq).trans (View.set_slice_whole _ _)

/-- The barrier semaphore. -/
abbrev barS : Sem sig := (SemArray.scalar (sig.barrier 0 rfl) : Sems sig S_).sem
/-- The semaphore that counts copy `k` as sent. -/
abbrev sendSem (k : Fin 3) : DmaSem sig := ⟨2 + k.val, by have := k.isLt; show _ < 8; omega⟩
/-- The semaphore that counts what lands in slot `j + 1`. -/
abbrev recvSem (j : Fin 3) : DmaSem sig := ⟨5 + j.val, by have := j.isLt; show _ < 8; omega⟩

/-- Device `c`'s barrier cell. -/
abbrev barCell (c : Dev nD) : GSem nD τ sig := ((c : Thread nD τ), .reg barS)
/-- Device `c`'s send cell of copy `k`. -/
abbrev sendCell (c : Dev nD) (k : Fin 3) : GSem nD τ sig := ((c : Thread nD τ), .dma (sendSem k))
/-- Device `c`'s receive cell of slot `j + 1`. -/
abbrev recvCell (c : Dev nD) (j : Fin 3) : GSem nD τ sig := ((c : Thread nD τ), .dma (recvSem j))

/-- The scoped semaphores of the kernel: three send, three receive. -/
abbrev osem : Fin 6 → SemLoc sig :=
  fun | 0 => .dma (sendSem 0) | 1 => .dma (sendSem 1) | 2 => .dma (sendSem 2)
      | 3 => .dma (recvSem 0) | 4 => .dma (recvSem 1) | 5 => .dma (recvSem 2)
/-- All seven semaphores of the exchange. -/
abbrev csem : Fin 7 → SemLoc sig :=
  fun | 0 => .reg barS | 1 => .dma (sendSem 0) | 2 => .dma (sendSem 1) | 3 => .dma (sendSem 2)
      | 4 => .dma (recvSem 0) | 5 => .dma (recvSem 1) | 6 => .dma (recvSem 2)
/-- The cells of the exchange. -/
abbrev kcell (ck : Dev nD × Fin 7) : GSem nD τ sig := ((ck.1 : Thread nD τ), csem ck.2)
/-- The place of send cell `k` among the seven. -/
abbrev sIx (k : Fin 3) : Fin 7 := ⟨1 + k.val, by have := k.isLt; omega⟩
/-- The place of receive cell `j` among the seven. -/
abbrev rIx (j : Fin 3) : Fin 7 := ⟨4 + j.val, by have := j.isLt; omega⟩
/-- The send cell at its place. -/
theorem kcell_send (c : Dev nD) (k : Fin 3) : kcell (c, sIx k) = sendCell c k := by fin_cases k <;> rfl
/-- The receive cell at its place. -/
theorem kcell_recv (c : Dev nD) (j : Fin 3) : kcell (c, rIx j) = recvCell c j := by fin_cases j <;> rfl

/-- The credit one slot's copy raises its semaphores by. -/
abbrev N : ℕ := (slotM 0).view.dmaCredit
/-- It is positive. -/
theorem N_pos : 0 < N := View.dmaCredit_pos _ (by decide)

/-! ## Contents -/

/-- Device `c`'s block of the argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s pair of rows: the maxima of its block's columns, and the indices. -/
def mine (c : Dev nD) (r : Fin 2) (j : Fin 512) : F .f32 :=
  if r = 0 then k0_pay2 (xstg m ρ c) (ix1 j) else k0_pay3 c (xstg m ρ c) (ix1 j)

/-- The four-slot buffer of device `c` after the exchange: slot `o` has the pair of the device `o` places further. -/
def gath (c : Dev nD) : (cc0_scratch0 : Ref sig .tc).ty.Contents (Elt F) :=
  fun i => mine m ρ (offs (i (0 : Fin 3)) c) (i (1 : Fin 3)) (i (2 : Fin 3))

/-- Element `(r, j)` of slot `o` is element `(o, r, j)` of the buffer. -/
theorem slot_emb (o : Fin 4) (x : S2x512.Idx) : (slotM o).view.emb x = (ix3 o (x 0) (x 1) : S4x2x512.Idx) := by
  have h : Shape.reshapeEquiv (squeezes_S1x2x512_S2x512.numel_eq : S2x512.numel = S1x2x512.numel) x
      = (Fin.cons (⟨0, by decide⟩ : Fin 1) x : S1x2x512.Idx) := Shape.reshapeEquiv_cons_one _ _
  refine funext fun a => Fin.ext ?_
  show ((slotR o).emb (Shape.reshapeEquiv _ x) a : ℕ) = _
  rw [Rect.emb_apply, h]
  fin_cases a
  · simp [Rect.unit]; rfl
  · simp [Rect.unit]; rfl
  · simp [Rect.unit]; rfl

/-- What a copy of device `c`'s slot 0 writes into slot `o` of the device it is `o` places further than. -/
theorem landed_eq (k : Fin 3) (c : Dev nD) (fd : (cc0_scratch0 : Ref sig .tc).ty.Contents (Elt F)) :
    ∀ i ∈ (slotM k.rev.succ).view.set,
      (slotM k.rev.succ).view.write (Elt F) fd ((slotM 0).view.read (Elt F) (gath m ρ c)) Finset.univ i = gath m ρ (peer k c) i := by
  intro i hi
  obtain ⟨x, -, rfl⟩ := Finset.mem_map.mp hi
  rw [View.write_emb_of_mem _ _ (Finset.mem_univ x), View.read_apply]
  rw [slot_emb, slot_emb]
  show mine m ρ (offs 0 c) (x 0) (x 1) = mine m ρ (offs k.rev.succ (peer k c)) (x 0) (x 1)
  rw [offs_zero, show offs k.rev.succ (peer k c) = c from peer_rev k c]

/-! ## The slots as assertions -/

/-- Device `c`'s slot `o`, at a share, with contents. -/
def slotPts (c : Dev nD) (o : Fin 4) (q : PosShare TreeShare) (f : (cc0_scratch0 : Ref sig .tc).ty.Contents (Elt F)) : sProp 𝕄 :=
  (slotM o).view.loc (c : Thread nD τ) ↦[(slotM o).view.set]{q} f

omit [FloatOps F] in
instance slotPts_storable (c : Dev nD) (o : Fin 4) (q : PosShare TreeShare) (f) :
    BI.Storable (upEmb : UEmb _ 𝕄) (slotPts (F := F) c o q f) := by unfold slotPts; infer_instance

/-- The share of slot 0 the reader keeps while copies fly. -/
abbrev qKeep : PosShare TreeShare := shareDrop fullShare 3
/-- The share of slot 0 lent to copy `k`. -/
abbrev qLent (k : Fin 3) : PosShare TreeShare := shareTok fullShare 3 k

/-- Different slots have no element in common. -/
theorem slot_disjoint : ∀ o o' : Fin 4, o ≠ o' → Disjoint (slotR o).set (slotR o').set :=
  lead_disjoint (s := S4x2x512) (0 : Fin 3) 1 (fun o : Fin 4 => ![o.val, 0, 0]) S1x2x512.size slot_inb (by decide) rfl
/-- The slots are the whole buffer. -/
theorem slot_cover : Finset.univ.biUnion (fun o : Fin 4 => (slotR o).set) = Finset.univ :=
  lead_cover (s := S4x2x512) (0 : Fin 3) 1 (fun o : Fin 4 => ![o.val, 0, 0]) S1x2x512.size slot_inb (by decide) (by decide) rfl (by decide) rfl

omit [FloatOps F] in
/-- The whole four-slot buffer is its slots. -/
theorem slots_eq (c : Dev nD) (q : PosShare TreeShare) (f : (cc0_scratch0 : Ref sig .tc).ty.Contents (Elt F)) :
    ((((c : Thread nD τ).loc cc0_scratch0) ↦{q} f) : sProp 𝕄) = bigSep Finset.univ fun o : Fin 4 => slotPts c o q f := by
  refine (pointsTo_blocks (ℓ := (c : Thread nD τ).loc cc0_scratch0) (fun o : Fin 4 => (slotR o).set) slot_disjoint slot_cover f).trans
    (bigSep_congr fun o _ => ?_)
  unfold slotPts; rw [slot_set]

/-! ## The schedule -/

/-- What duty `k` of device `c`'s barrier cell, paid by `peer k c`, hands over: the slot of that device copy `k` of `c`
    writes. -/
def barPay (c : Dev nD) (k : Fin 3) : sProp 𝕄 := iprop(∃ f, slotPts (peer k c) k.rev.succ fullShare f)

/-- The slot a receive semaphore counts. -/
def slotOf (s : DmaSem sig) : Fin 4 := ⟨(s.val - 4) % 4, Nat.mod_lt _ (by decide)⟩
/-- The share a send semaphore gives back. -/
def lentOf (s : DmaSem sig) : Fin 3 := ⟨(s.val - 2) % 3, Nat.mod_lt _ (by decide)⟩

/-- Which duties a semaphore's round has: three on the barrier, one on a copy's, none on the staging semaphores. -/
def dutiesOf : SemLoc sig → Finset (Fin 3)
  | .reg _ => Finset.univ
  | .dma s => if 2 ≤ s.val then {0} else ∅
/-- What a duty of a semaphore on device `c` hands over. -/
def payOf (c : Dev nD) : SemLoc sig → Fin 3 → sProp 𝕄
  | .reg _, d => barPay c d
  | .dma s, _ => if 5 ≤ s.val then slotPts c (slotOf s) fullShare (gath m ρ c)
      else slotPts c 0 (qLent (lentOf s)) (gath m ρ c)
/-- The units a duty of a semaphore pays. -/
def amtOf : SemLoc sig → ℕ
  | .reg _ => 1
  | .dma _ => N

/-- The schedule: one round. -/
def xRd : Rounds.Schedule (GSem nD τ sig) (Fin 3) 𝕄 where
  duties g r := if r = 0 ∧ g.1.2 = .tc then dutiesOf g.2 else ∅
  unitless _ := False
  amount g _ _ := amtOf g.2
  payload g _ d := payOf m ρ g.1.1 g.2 d
  amount_pos g _ _ _ := by
    rcases g with ⟨t, s | s⟩
    · exact Nat.one_pos
    · exact N_pos

instance xRd_payload_storable (g : GSem nD τ sig) (r : ℕ) (d : Fin 3) :
    BI.Storable (upEmb : UEmb _ 𝕄) ((xRd (F := F) m ρ).payload g r d) := by
  rcases g with ⟨t, s | s⟩
  · show BI.Storable upEmb (barPay t.1 d)
    unfold barPay; infer_instance
  · show BI.Storable upEmb (if 5 ≤ s.val then slotPts t.1 (slotOf s) fullShare (gath m ρ t.1)
      else slotPts t.1 0 (qLent (lentOf s)) (gath m ρ t.1))
    split <;> infer_instance

section Tables
variable (c : Dev nD) (k : Fin 3)

/-- The barrier's round has the three duties. -/
theorem duties_bar : (xRd (F := F) m ρ).duties (barCell c) 0 = Finset.univ := by dsimp only [xRd]; rw [if_pos ⟨rfl, rfl⟩]; rfl
/-- A send cell's round has one. -/
theorem duties_send : (xRd (F := F) m ρ).duties (sendCell c k) 0 = {0} := by
  dsimp only [xRd]; rw [if_pos ⟨rfl, rfl⟩]; exact if_pos (Nat.le_add_right 2 _)
/-- A receive cell's round has one. -/
theorem duties_recv : (xRd (F := F) m ρ).duties (recvCell c k) 0 = {0} := by
  dsimp only [xRd]; rw [if_pos ⟨rfl, rfl⟩]; exact if_pos (show 2 ≤ 5 + k.val by omega)
/-- No later round has any. -/
theorem duties_later (g : GSem nD τ sig) : ∀ r, 1 ≤ r → (xRd (F := F) m ρ).duties g r = ∅ :=
  fun r hr => if_neg fun h => by omega

/-- The barrier's round expects three units. -/
theorem expect_bar : (xRd (F := F) m ρ).expect (barCell c) 0 = 3 := by
  unfold Schedule.expect Schedule.amountOf; rw [duties_bar]; rfl
/-- A send cell's expects one slot's credit. -/
theorem expect_send : (xRd (F := F) m ρ).expect (sendCell c k) 0 = N := by
  unfold Schedule.expect Schedule.amountOf; rw [duties_send, Finset.sum_singleton]; rfl
/-- A receive cell's expects one slot's credit. -/
theorem expect_recv : (xRd (F := F) m ρ).expect (recvCell c k) 0 = N := by
  unfold Schedule.expect Schedule.amountOf; rw [duties_recv, Finset.sum_singleton]; rfl

/-- What the barrier's duty `k` pays. -/
theorem payload_bar : (xRd (F := F) m ρ).payload (barCell c) 0 k = barPay c k := rfl
/-- What a send cell's duty pays: slot 0 back. -/
theorem payload_send (d : Fin 3) : (xRd (F := F) m ρ).payload (sendCell c k) 0 d = slotPts c 0 (qLent k) (gath m ρ c) := by
  have h : lentOf (sendSem k) = k := by revert k; decide
  show (if 5 ≤ (sendSem k).val then _ else slotPts c 0 (qLent (lentOf (sendSem k))) (gath m ρ c)) = _
  rw [if_neg (show ¬ 5 ≤ 2 + k.val by have := k.isLt; omega), h]
/-- What a receive cell's duty pays: the slot with the sender's pair. -/
theorem payload_recv (d : Fin 3) : (xRd (F := F) m ρ).payload (recvCell c k) 0 d = slotPts c k.succ fullShare (gath m ρ c) := by
  have h : slotOf (recvSem k) = k.succ := by revert k; decide
  show (if 5 ≤ (recvSem k).val then slotPts c (slotOf (recvSem k)) fullShare (gath m ρ c) else _) = _
  rw [if_pos (show 5 ≤ 5 + k.val by omega), h]

/-- All the barrier's round pays. -/
theorem rest_bar : bigSep ((xRd (F := F) m ρ).duties (barCell c) 0 \ ∅) (fun d => (xRd (F := F) m ρ).payload (barCell c) 0 d)
    = iprop(barPay c 0 ∗ barPay c 1 ∗ barPay c 2) := by
  rw [Finset.sdiff_empty, duties_bar, bigSep_univ_eq_bigSepL [0, 1, 2] (by decide) (by decide)]
  rfl
/-- All a send cell's round pays. -/
theorem rest_send : bigSep ((xRd (F := F) m ρ).duties (sendCell c k) 0 \ ∅) (fun d => (xRd (F := F) m ρ).payload (sendCell c k) 0 d)
    = slotPts c 0 (qLent k) (gath m ρ c) := by
  rw [Finset.sdiff_empty, duties_send, bigSep_singleton, payload_send]
/-- All a receive cell's round pays. -/
theorem rest_recv : bigSep ((xRd (F := F) m ρ).duties (recvCell c k) 0 \ ∅) (fun d => (xRd (F := F) m ρ).payload (recvCell c k) 0 d)
    = slotPts c k.succ fullShare (gath m ρ c) := by
  rw [Finset.sdiff_empty, duties_recv, bigSep_singleton, payload_recv]

end Tables

/-! ## What each device owes at launch, and the levels -/

/-- What device `c` owes by its copy `k`. -/
abbrev owR (k : Fin 3) (c : Dev nD) : CellTallies nD τ sig Unit := tallyAt (recvCell (peer k c) k.rev) () N
/-- What device `c` owes by its signal `k`. -/
abbrev owB (k : Fin 3) (c : Dev nD) : CellTallies nD τ sig Unit := tallyAt (barCell (peer k c)) () 1
/-- What is still owed before the third copy … -/
def ow5 (c : Dev nD) : CellTallies nD τ sig Unit := 0 + owR 2 c
/-- … before the second … -/
def ow4 (c : Dev nD) : CellTallies nD τ sig Unit := ow5 c + owR 1 c
/-- … before the first … -/
def ow3 (c : Dev nD) : CellTallies nD τ sig Unit := ow4 c + owR 0 c
/-- … before the third signal … -/
def ow2 (c : Dev nD) : CellTallies nD τ sig Unit := ow3 c + owB 2 c
/-- … before the second … -/
def ow1 (c : Dev nD) : CellTallies nD τ sig Unit := ow2 c + owB 1 c
/-- … and at launch. -/
def O₀ (c : Dev nD) : CellTallies nD τ sig Unit := ow1 c + owB 0 c

/-- The tallies are kept on the TensorCores. -/
def L (g : GSem nD τ sig) : Finset Unit := if g.1.2 = .tc then {()} else ∅
/-- Levels: staging and send cells below the barrier, the barrier below the receive cells. -/
def lv (g : GSem nD τ sig) (_ : Unit) : ℕ := match g.2 with
  | .reg _ => 1
  | .dma s => if 5 ≤ s.val then 2 else 0

/-- Nothing is tallied elsewhere. -/
theorem L_of_ne (g : GSem nD τ sig) (h : g.1.2 ≠ .tc) : L g = ∅ := if_neg h
/-- On a TensorCore one tally. -/
theorem L_tc (c : Dev nD) (sm : SemLoc sig) : L ((c : Thread nD τ), sm) = {()} := if_pos rfl
/-- A receive cell's level. -/
theorem lv_recv (c : Dev nD) (j : Fin 3) : lv (recvCell c j) () = 2 := if_pos (Nat.le_add_right 5 _)

/-- A positive tally is at its cell. -/
theorem tallyAt_pos {g₀ g : GSem nD τ sig} {n : ℕ} {u : Unit} (h : 0 < (tallyAt g₀ () n : CellTallies nD τ sig Unit) g u) : g = g₀ := by
  rw [tallyAt_apply] at h
  by_contra hn
  rw [if_neg fun h' => hn h'.1] at h
  exact Nat.lt_irrefl 0 h
/-- After the signals only receive cells are owed to. -/
theorem ow3_pos {c : Dev nD} {g : GSem nD τ sig} {u : Unit} (h : 0 < ow3 c g u) : ∃ c' j, g = recvCell c' j := by
  simp only [ow3, ow4, ow5, Pi.add_apply, Finsupp.add_apply, zero_add] at h
  by_contra hn
  have hz : ∀ k : Fin 3, owR k c g u = 0 := fun k => Nat.eq_zero_of_not_pos fun h' => hn ⟨_, _, tallyAt_pos h'⟩
  rw [hz 0, hz 1, hz 2] at h
  exact Nat.lt_irrefl 0 h
/-- At launch receive and barrier cells are owed to. -/
theorem O₀_pos {c : Dev nD} {g : GSem nD τ sig} {u : Unit} (h : 0 < O₀ c g u) : (∃ c' j, g = recvCell c' j) ∨ ∃ c', g = barCell c' := by
  simp only [O₀, ow1, ow2, Pi.add_apply, Finsupp.add_apply] at h
  by_contra hn
  rw [not_or] at hn
  have hz : ∀ k : Fin 3, owB k c g u = 0 := fun k => Nat.eq_zero_of_not_pos fun h' => hn.2 ⟨_, tallyAt_pos h'⟩
  have h3 : ow3 c g u = 0 := Nat.eq_zero_of_not_pos fun h' => hn.1 (ow3_pos h')
  rw [hz 0, hz 1, hz 2, h3] at h
  exact Nat.lt_irrefl 0 h

/-- A staging semaphore may be waited for at launch and at the end. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨c', j, rfl⟩ | ⟨c', rfl⟩ <;> exact Finset.mem_singleton_self _)
      (fun p hp => by rw [Finset.mem_singleton.mp hp]; dsimp only [lv]; rw [if_neg (by omega)])
      (fun g u hg => by
        rcases O₀_pos hg with ⟨c', j, rfl⟩ | ⟨c', rfl⟩
        · rw [lv_recv]; decide
        · exact Nat.one_pos)
  · rw [MayWait_zero]; iintro -; iempintro

/-- The barrier may be waited for while the copies are owed. -/
theorem mayWait_bar (c : Dev nD) : (levAts L lv : sProp 𝕄) ⊢ MayWait (c : Thread nD τ) (.reg barS) () (ow3 c) :=
  MayOwe.of_cut (L := L) (lev := lv) 1 (fun p hp => by rw [Finset.mem_singleton.mp hp, L_tc]; exact Finset.mem_singleton_self _)
    (fun g u hg => by obtain ⟨c', j, rfl⟩ := ow3_pos hg; exact Finset.mem_singleton_self _)
    (fun p hp => by rw [Finset.mem_singleton.mp hp]; exact Nat.le_refl 1)
    (fun g u hg => by obtain ⟨c', j, rfl⟩ := ow3_pos hg; rw [lv_recv]; decide)

end Cert.KernelIdeal.Exchange
-- ==== Proof.IdealRun.Body.lean ====
/-
# The exchange's body on one device

The kernel's body is run effect by effect: three signals, the block's reduction, the barrier wait, three copies, three
receive waits, the reduction over the four slots, three send waits.
-/
module

public import proofs.«01_k».proof.Proof.IdealRun.Protocol
public import Idealize.ShloMosaic.Lib.Pipeline.Value
public import Idealize.ShloMosaic.Lib.Exec.Geometry

@[expose] public section

noncomputable section

namespace Cert.KernelIdeal.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTok pointsTo_toks)

variable {F : FTy → Type} [FloatOps F]

local notation "𝕄" => MT nD τ sig Unit (Elt F) ℕ UU ℕ

variable (m : (ℓ : Loc nD τ sig) → Buf (Elt F) ℓ) (ρ : Dev nD → PrngReg)

/-! ## What a device's body starts and ends with -/

/-- The invariants of all cells and that all are at round 0, shared by every device. -/
def shared (K : Dev nD × Fin 7 → ℕ) : sProp 𝕄 :=
  bigSep Finset.univ fun ck : Dev nD × Fin 7 => iprop(cellInv ER (xRd m ρ) (K ck) (kcell ck) ∗ reached ER (kcell ck) 0)

instance shared_persistent (K : Dev nD × Fin 7 → ℕ) : BI.Persistent (shared m ρ K) := by unfold shared; infer_instance

/-- One cell of the shared ones. -/
theorem shared_at (K : Dev nD × Fin 7 → ℕ) (ck : Dev nD × Fin 7) :
    shared m ρ K ⊢ iprop(cellInv ER (xRd m ρ) (K ck) (kcell ck) ∗ reached ER (kcell ck) 0) := by
  unfold shared; exact bigSep_elim (Finset.mem_univ ck)
/-- A send cell of the shared ones. -/
theorem shared_send (K : Dev nD × Fin 7 → ℕ) (c : Dev nD) (k : Fin 3) :
    shared m ρ K ⊢ iprop(cellInv ER (xRd m ρ) (K (c, sIx k)) (sendCell c k) ∗ reached ER (sendCell c k) 0) := by
  rw [← kcell_send]; exact shared_at m ρ K (c, sIx k)
/-- A receive cell of the shared ones. -/
theorem shared_recv (K : Dev nD × Fin 7 → ℕ) (c : Dev nD) (j : Fin 3) :
    shared m ρ K ⊢ iprop(cellInv ER (xRd m ρ) (K (c, rIx j)) (recvCell c j) ∗ reached ER (recvCell c j) 0) := by
  rw [← kcell_recv]; exact shared_at m ρ K (c, rIx j)

/-- What device `c` has for number `k`: its position at its send and receive cell, and the tokens of the duties it pays —
    a unit on the barrier of `peer k c`, its copy's credit there, its copy's credit at home. -/
def linK (c : Dev nD) (k : Fin 3) : sProp 𝕄 :=
  iprop(atPos ER (sendCell c k) 0 ∅ 0 ∗ atPos ER (recvCell c k) 0 ∅ 0
    ∗ dutyTok ER (barCell (peer k c)) 0 k.rev ∗ dutyTok ER (recvCell (peer k c) k.rev) 0 (0 : Fin 3) ∗ dutyTok ER (sendCell c k) 0 (0 : Fin 3))
/-- What device `c` alone has. -/
def lin (c : Dev nD) : sProp 𝕄 := iprop(atPos ER (barCell c) 0 ∅ 0 ∗ bigSep Finset.univ (linK (F := F) c))

/-- The credits of device `c`'s waits that others pay. -/
def credits (c : Dev nD) : sProp 𝕄 :=
  iprop(cred (tallyAt (barCell c) () 3) ∗ bigSep Finset.univ fun j : Fin 3 => cred (tallyAt (recvCell c j) () N))

/-- What device `c`'s body starts from. -/
def start (c : Dev nD) : sProp 𝕄 := iprop((∃ K, shared m ρ K ∗ lin c) ∗ credits c ∗ levAts L lv)

/-- What the pipeline carries into the point … -/
def Φ₀ (c : Dev nD) : sProp 𝕄 :=
  iprop(start m ρ c ∗ ∃ f : (cc0_scratch0 : Ref sig .tc).ty.Contents (Elt F), ((c : Thread nD τ).loc cc0_scratch0) ↦{fullShare} f)
/-- … and out of it: the gathered buffer, and every cell of the device at zero. -/
def Φ₁ (c : Dev nD) : sProp 𝕄 :=
  iprop((((c : Thread nD τ).loc cc0_scratch0) ↦{fullShare} gath m ρ c)
    ∗ semVal (barCell c) 0
    ∗ (semVal (sendCell c 0) 0 ∗ semVal (sendCell c 1) 0 ∗ semVal (sendCell c 2) 0)
    ∗ (semVal (recvCell c 0) 0 ∗ semVal (recvCell c 1) 0 ∗ semVal (recvCell c 2) 0))

/-- The rectangle of every slot's first row. -/
abbrev rTop : Rect S4x2x512 := Rect.unit (s := S4x2x512) ![0, 0, 0] S4x1x512.size inb_S4x2x512_S4x1x512_0_0_0
/-- The rectangle of every slot's second row. -/
abbrev rBot : Rect S4x2x512 := Rect.unit (s := S4x2x512) ![0, 1, 0] S4x1x512.size inb_S4x2x512_S4x1x512_0_1_0
/-- The rectangle of slot 0's first row. -/
abbrev rTop0 : Rect S4x2x512 := Rect.unit (s := S4x2x512) ![0, 0, 0] S1x1x512.size inb_S4x2x512_S1x1x512_0_0_0
/-- The rectangle of slot 0's second row. -/
abbrev rBot0 : Rect S4x2x512 := Rect.unit (s := S4x2x512) ![0, 1, 0] S1x1x512.size inb_S4x2x512_S1x1x512_0_1_0
/-- The rectangle of the result's first row. -/
abbrev oTop : Rect S2x512 := Rect.unit (s := S2x512) ![0, 0] S1x512.size inb_S2x512_S1x512_0_0
/-- The rectangle of the result's second row. -/
abbrev oBot : Rect S2x512 := Rect.unit (s := S2x512) ![1, 0] S1x512.size inb_S2x512_S1x512_1_0

/-- The four rows of maxima device `c` reads. -/
def tops (c : Dev nD) : Vec F S4x1x512 .f32 := fun i => mine m ρ (offs (i (0 : Fin 3)) c) 0 (i (2 : Fin 3))
/-- The four rows of indices device `c` reads. -/
def bots (c : Dev nD) : Vec F S4x1x512 .f32 := fun i => mine m ρ (offs (i (0 : Fin 3)) c) 1 (i (2 : Fin 3))

/-- The result on device `c`. -/
def outAt (c : Dev nD) : (cc0_stg1_0 : Ref sig .tc).ty.Contents (Elt F) := fun i =>
  if (i (0 : Fin 2)).val = 0 then k0_pay8 (tops m ρ c) (ix2 (0 : Fin 1) (i (1 : Fin 2)))
  else k0_pay9 (tops m ρ c) (bots m ρ c) (ix2 (0 : Fin 1) (i (1 : Fin 2)))

/-! ## The contents the stores leave and the loads read -/

/-- An element of every slot's first row, in the buffer. -/
theorem emb_top (i : S4x1x512.Idx) : rTop.emb i = (ix3 (n0 := 4) (n1 := 2) (n2 := 512) (i (0 : Fin 3)) 0 (i (2 : Fin 3)) : S4x2x512.Idx) := by
  have h1 : (i (1 : Fin 3)).val = 0 := Nat.lt_one_iff.mp (i (1 : Fin 3)).isLt
  funext a; refine Fin.ext ?_
  rw [Rect.emb_apply]
  fin_cases a
  · show 0 + 1 * (i (0 : Fin 3)).val = (i (0 : Fin 3)).val; omega
  · show 0 + 1 * (i (1 : Fin 3)).val = 0; omega
  · show 0 + 1 * (i (2 : Fin 3)).val = (i (2 : Fin 3)).val; omega
/-- An element of every slot's second row, in the buffer. -/
theorem emb_bot (i : S4x1x512.Idx) : rBot.emb i = (ix3 (n0 := 4) (n1 := 2) (n2 := 512) (i (0 : Fin 3)) 1 (i (2 : Fin 3)) : S4x2x512.Idx) := by
  have h1 : (i (1 : Fin 3)).val = 0 := Nat.lt_one_iff.mp (i (1 : Fin 3)).isLt
  funext a; refine Fin.ext ?_
  rw [Rect.emb_apply]
  fin_cases a
  · show 0 + 1 * (i (0 : Fin 3)).val = (i (0 : Fin 3)).val; omega
  · show 1 + 1 * (i (1 : Fin 3)).val = 1; omega
  · show 0 + 1 * (i (2 : Fin 3)).val = (i (2 : Fin 3)).val; omega

/-- Reading every slot's first row. -/
theorem read_tops (c : Dev nD) : gM.view.readAt (Elt F) rTop.toLoadRect (gath m ρ c) = tops m ρ c := by
  funext i
  show gath m ρ c (rTop.emb i) = _
  rw [emb_top]; rfl
/-- Reading every slot's second row. -/
theorem read_bots (c : Dev nD) : gM.view.readAt (Elt F) rBot.toLoadRect (gath m ρ c) = bots m ρ c := by
  funext i
  show gath m ρ c (rBot.emb i) = _
  rw [emb_bot]; rfl

/-- The two rows stored over the result are the result. -/
theorem write_out (c : Dev nD) (f : (cc0_stg1_0 : Ref sig .tc).ty.Contents (Elt F)) :
    (oM.access oBot : View sig .tc _ _ _).write (Elt F)
      ((oM.access oTop : View sig .tc _ _ _).write (Elt F) f (k0_pay8 (tops m ρ c)) Finset.univ)
      (k0_pay9 (tops m ρ c) (bots m ρ c)) Finset.univ = outAt m ρ c := by
  funext i
  by_cases h : (i (0 : Fin 2)).val = 0
  · have hi : i = (oM.access oTop : View sig .tc _ _ _).emb (ix2 (0 : Fin 1) (i (1 : Fin 2)) : S1x512.Idx) := by
      funext a; refine Fin.ext ?_
      show _ = (oTop.emb (ix2 (0 : Fin 1) (i (1 : Fin 2)) : S1x512.Idx) a : ℕ)
      rw [Rect.emb_apply]; fin_cases a
      · simpa using h
      · simp
    rw [View.write_of_not_mem]
    · rw [show outAt m ρ c i = k0_pay8 (tops m ρ c) (ix2 (0 : Fin 1) (i (1 : Fin 2))) from if_pos h]
      conv_lhs => rw [hi]
      rw [View.write_emb_of_mem _ _ (Finset.mem_univ _)]; rfl
    · intro hm
      obtain ⟨x, -, hx⟩ := Finset.mem_map.mp hm
      have : (oBot.emb x (0 : Fin 2) : ℕ) = (i (0 : Fin 2)).val := by rw [← hx]; rfl
      rw [Rect.emb_apply, h] at this; simp at this
  · have hi : i = (oM.access oBot : View sig .tc _ _ _).emb (ix2 (0 : Fin 1) (i (1 : Fin 2)) : S1x512.Idx) := by
      funext a; refine Fin.ext ?_
      show _ = (oBot.emb (ix2 (0 : Fin 1) (i (1 : Fin 2)) : S1x512.Idx) a : ℕ)
      rw [Rect.emb_apply]; fin_cases a
      · have := (i (0 : Fin 2)).isLt
        change _ < 2 at this
        simp; omega
      · simp
    rw [show outAt m ρ c i = k0_pay9 (tops m ρ c) (bots m ρ c) (ix2 (0 : Fin 1) (i (1 : Fin 2))) from if_neg h]
    conv_lhs => rw [hi]
    rw [View.write_emb_of_mem _ _ (Finset.mem_univ _)]; rfl

/-- Slot 0 after the two stores of a pair of rows. -/
abbrev stored (f : (cc0_scratch0 : Ref sig .tc).ty.Contents (Elt F)) (u v : FVec F S512 .f32) : (cc0_scratch0 : Ref sig .tc).ty.Contents (Elt F) :=
  (gM.access rBot0 : View sig .tc _ _ _).write (Elt F)
    ((gM.access rTop0 : View sig .tc _ _ _).write (Elt F) f (k0_pay4 u) Finset.univ) (k0_pay5 v) Finset.univ

/-- Its first row. -/
theorem stored_top (f : (cc0_scratch0 : Ref sig .tc).ty.Contents (Elt F)) (u v : FVec F S512 .f32) (j : Fin 512) :
    stored f u v (ix3 (0 : Fin 4) (0 : Fin 2) j : S4x2x512.Idx) = u (ix1 j) := by
  have hi : (ix3 (0 : Fin 4) (0 : Fin 2) j : S4x2x512.Idx)
      = (gM.access rTop0 : View sig .tc _ _ _).emb (ix3 (0 : Fin 1) (0 : Fin 1) j : S1x1x512.Idx) := by
    funext a; refine Fin.ext ?_
    show _ = (rTop0.emb (ix3 (0 : Fin 1) (0 : Fin 1) j : S1x1x512.Idx) a : ℕ)
    rw [Rect.emb_apply]; fin_cases a <;> simp
  unfold stored
  rw [View.write_of_not_mem]
  · rw [hi, View.write_emb_of_mem _ _ (Finset.mem_univ _)]
    exact shapeCast_apply _ _ _ _ (by simp [Shape.rowMajor_val_one, Shape.rowMajor_val_three])
  · intro hm
    obtain ⟨y, -, hy⟩ := Finset.mem_map.mp hm
    have : (rBot0.emb y (1 : Fin 3) : ℕ) = 0 := congrArg (fun i : S4x2x512.Idx => (i (1 : Fin 3)).val) hy
    rw [Rect.emb_apply] at this; simp at this

/-- Its second row. -/
theorem stored_bot (f : (cc0_scratch0 : Ref sig .tc).ty.Contents (Elt F)) (u v : FVec F S512 .f32) (j : Fin 512) :
    stored f u v (ix3 (0 : Fin 4) (1 : Fin 2) j : S4x2x512.Idx) = v (ix1 j) := by
  have hi : (ix3 (0 : Fin 4) (1 : Fin 2) j : S4x2x512.Idx)
      = (gM.access rBot0 : View sig .tc _ _ _).emb (ix3 (0 : Fin 1) (0 : Fin 1) j : S1x1x512.Idx) := by
    funext a; refine Fin.ext ?_
    show _ = (rBot0.emb (ix3 (0 : Fin 1) (0 : Fin 1) j : S1x1x512.Idx) a : ℕ)
    rw [Rect.emb_apply]; fin_cases a <;> simp
  unfold stored
  rw [hi, View.write_emb_of_mem _ _ (Finset.mem_univ _)]
  exact shapeCast_apply _ _ _ _ (by simp [Shape.rowMajor_val_one, Shape.rowMajor_val_three])

/-- The two rows stored over slot 0 are the device's pair. -/
theorem write_mine (c : Dev nD) (f : (cc0_scratch0 : Ref sig .tc).ty.Contents (Elt F)) :
    ∀ i ∈ (slotM 0).view.set, stored f (k0_pay2 (xstg m ρ c)) (k0_pay3 c (xstg m ρ c)) i = gath m ρ c i := by
  intro i hi
  obtain ⟨x, -, rfl⟩ := Finset.mem_map.mp hi
  obtain ⟨r, j, rfl⟩ : ∃ (r : Fin 2) (j : Fin 512), x = ix2 r j := ⟨x 0, x 1, eq_ix2 x⟩
  rw [slot_emb]
  have hg : gath m ρ c (ix3 (0 : Fin 4) r j : S4x2x512.Idx) = mine m ρ c r j := by
    show mine m ρ (offs 0 c) r j = _; rw [offs_zero]
  refine Eq.trans ?_ hg.symm
  fin_cases r
  · exact stored_top f _ _ j
  · exact stored_bot f _ _ j

/-! ## The pipeline's proof data -/

/-- The launch's one point. -/
theorem cfg0_N : cfg0.N = 1 := by decide
/-- The point. -/
def t₀ : Fin cfg0.N := ⟨0, by rw [cfg0_N]; decide⟩
/-- There is no other. -/
theorem fin_N (t : Fin cfg0.N) : t = t₀ := by
  obtain ⟨t, ht⟩ := t; have := cfg0_N; exact Fin.ext (by simp only [t₀]; omega)

/-- The arrays at launch, what the body leaves in the staging buffers, and what is carried and owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- No loop needs a variant. -/
abbrev 𝒱₀ : Variants := Variants.none

/-- The windows one after the other. -/
theorem bigSep_W (Φ : Fin cfg0.W → sProp 𝕄) : bigSep Finset.univ Φ = iprop(Φ (0 : Fin 2) ∗ Φ (1 : Fin 2)) := bigSep_W0 Φ
/-- The argument's window is fetched. -/
theorem fetch_0 (t : Fin cfg0.N) : (cfg0.win (0 : Fin 2)).fetch t = true := by rw [fin_N t]; rfl

/-- Owning a whole buffer with known contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The steps -/

/-- What a device owes, whatever it has waited for so far. -/
abbrev owesS (c : Dev nD) (O : CellTallies nD τ sig Unit) : sProp 𝕄 := iprop(∃ W, owes (c : Thread nD τ) O W)

section Steps

variable (K : Dev nD × Fin 7 → ℕ) {α : Type} {kk : PUnit.{1} → Prog (TpuEff nD τ sig (Elt F) Λ₀ .tc) α}

/-- The weakest precondition of a program of the body on device `c`. -/
abbrev wpB (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` hands over with its signal `k`. -/
theorem barPay_mine (k : Fin 3) (c : Dev nD) : (barPay (peer k c) k.rev : sProp 𝕄) = iprop(∃ f, slotPts c k.succ fullShare f) := by
  unfold barPay; rw [peer_rev, Fin.rev_rev]

/-- Signal `k`: device `c` hands its slot `k + 1` to `peer k c`. -/
theorem step_signal {Q : α → sProp 𝕄} (k : Fin 3) (c n : Dev nD) (hn : n = peer k c) (O : CellTallies nD τ sig Unit) {a : ℕ} (ha : a = 1) :
    iprop(shared m ρ K ∗ owesS c (O + owB k c) ∗ dutyTok ER (barCell (peer k c)) 0 k.rev ∗ (∃ f, slotPts c k.succ fullShare f))
      ⊢ iprop((owesS c O -∗ wpB c (kk ⟨⟩) Q) -∗ wpB c (.op (.semSignal (n : Thread nD τ) barS a) kk) Q) := by
  subst hn; subst ha
  iintro ⟨#Hsh, ⟨%W, HO⟩, Ht, Hs⟩ Hk
  ihave Hc := (shared_at m ρ K (peer k c, 0)) $$ Hsh
  icases Hc with ⟨#HI, #Hr⟩
  iapply (Rounds.wp_signal 𝒱₀ ER (xRd m ρ) (c : Thread nD τ) none (dst := (peer k c : Thread nD τ)) (κ := K (peer k c, 0))
      (d := k.rev) (by rw [duties_bar]; exact Finset.mem_univ _) rfl () O rfl) $$ [HO Ht Hs]
  · isplitr; · iexact HI
    isplitl [HO]; · iexact HO
    isplitl [Ht]; · iexact Ht
    isplitl [Hs]
    · rw [payload_bar, barPay_mine]; iexact Hs
    · iexact Hr
  iintro HO
  iapply Hk
  iexists W; iexact HO

/-- The barrier wait: the slots this device's copies write, and the barrier's cell closed. -/
theorem step_barrier {Q : α → sProp 𝕄} (c : Dev nD) {a : ℕ} (ha : a = 3) :
    iprop(shared m ρ K ∗ cred (tallyAt (barCell c) () 3) ∗ owesS c (ow3 c) ∗ levAts L lv ∗ atPos ER (barCell c) 0 ∅ 0)
      ⊢ iprop(((owesS c (ow3 c) ∗ semVal (barCell c) 0 ∗ barPay c 0 ∗ barPay c 1 ∗ barPay c 2) -∗ wpB c (kk ⟨⟩) Q)
          -∗ wpB c (.op (.semWait barS a) kk) Q) := by
  subst ha
  iintro ⟨#Hsh, Hc, ⟨%W, HO⟩, #Hlev, Hat⟩ Hk
  ihave Hci := (shared_at m ρ K (c, 0)) $$ Hsh
  icases Hci with ⟨#HI, #Hr⟩
  iapply (Rounds.wp_wait_rest_token 𝒱₀ ER (xRd m ρ) (c : Thread nD τ) none (κ := K (c, 0))
      (wpE_semWait_eq 𝒱₀ (c : Thread nD τ) none Set.univ) (Set.mem_univ _) () (O := ow3 c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (xRd m ρ) (Set.mem_univ (K (c, 0))) (fun h => h) (R := 0 + 1) (duties_later m ρ (barCell c))) $$ [Hat] with Hz
  · isplitr; · iexact HI
    iexact Hat
  iapply Hk
  isplitl [HO]; · iexists _; iexact HO
  isplitl [Hz] <;> iassumption

/-- Copy `k`: slot 0 of device `c` into the slot of `peer k c` that is `c`'s. -/
theorem step_send {Q : α → sProp 𝕄} (k : Fin 3) (c n : Dev nD) (hn : n = peer k c) (O : CellTallies nD τ sig Unit)
    {src : Memref sig .tc .vmem S2x512 .f32} (hs : src = slotM 0) {dst : Memref sig (Dev.tc n : Thread nD τ).2.kind .vmem S2x512 .f32}
    (hd : dst = slotM k.rev.succ) {sS sR : DmaSem sig} (hsS : sS = sendSem k) (hsR : sR = recvSem k.rev)
    {hsc : dst.view.ref.isScScratch = false} {hsrc : src.view.WordExact} {hdst : dst.view.WordExact}
    {hsem : DmaTarget.Typed .vmem (.dma sR) (.remote (Dev.tc n : Thread nD τ) dst (.dma sS) hsc)} :
    iprop(shared m ρ K ∗ slotPts c 0 (qLent k) (gath m ρ c) ∗ barPay c k ∗ owesS c (O + owR k c)
        ∗ dutyTok ER (sendCell c k) 0 (0 : Fin 3) ∗ dutyTok ER (recvCell (peer k c) k.rev) 0 (0 : Fin 3))
      ⊢ iprop(((cred (tallyAt (sendCell c k) () N) ∗ owesS c O) -∗ wpB c (kk ⟨⟩) Q)
          -∗ wpB c (.op (.enqueueDma src (.remote (Dev.tc n : Thread nD τ) dst (.dma sS) hsc) (.dma sR) hsrc hdst hsem) kk) Q) := by
  subst hn; subst hs; subst hd; subst hsS; subst hsR
  unfold barPay slotPts
  iintro ⟨#Hsh, Hsrc, ⟨%fd, Hdst⟩, ⟨%W, HO⟩, HtS, HtR⟩ Hk
  ihave Hci := (shared_send m ρ K c k) $$ Hsh
  icases Hci with ⟨#HIS, #HrS⟩
  ihave Hci := (shared_recv m ρ K (peer k c) k.rev) $$ Hsh
  icases Hci with ⟨#HIR, #HrR⟩
  iapply (Rounds.wp_send_pointsTo 𝒱₀ ER (xRd m ρ) (c : Thread nD τ) none (κ₁ := K (c, sIx k)) (κ₂ := K (peer k c, rIx k.rev))
    (r₁ := 0) (r₂ := 0) (d₁ := (0 : Fin 3)) (d₂ := (0 : Fin 3)) (fd := fd) (fs := gath m ρ c) (q := qLent k)
    (by rw [duties_send]; exact Finset.mem_singleton_self _) (by rw [duties_recv]; exact Finset.mem_singleton_self _)
    () () N rfl rfl rfl O rfl (W := W)
    (by rw [payload_send]; unfold slotPts; exact BI.Entails.refl _)
    (by rw [payload_recv]; unfold slotPts
        exact Entails.of_eq (pointsTo_congr (landed_eq m ρ k c fd)))) $$ [Hsrc Hdst HO HtS HtR]
  · isplitr; · iexact HIS
    isplitr; · iexact HIR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists _; iexact HO

/-- The wait for what lands in slot `j + 1`: the slot with its pair, the cell closed. -/
theorem step_recv {Q : α → sProp 𝕄} (j : Fin 3) (c : Dev nD) {s : DmaSem sig} (hs : s = recvSem j)
    {src dst : Memref sig .tc .vmem S2x512 .f32} (hd : dst = slotM j.succ) {hsrc : src.view.WordExact} {hdst : dst.view.WordExact} :
    iprop(shared m ρ K ∗ cred (tallyAt (recvCell c j) () N) ∗ owesS c 0 ∗ atPos ER (recvCell c j) 0 ∅ 0)
      ⊢ iprop(((owesS c 0 ∗ semVal (recvCell c j) 0 ∗ slotPts c j.succ fullShare (gath m ρ c)) -∗ wpB c (kk ⟨⟩) Q)
          -∗ wpB c (.op (.waitDma2 s src dst hsrc hdst) kk) Q) := by
  subst hs; subst hd
  iintro ⟨#Hsh, Hc, ⟨%W, HO⟩, Hat⟩ Hk
  ihave Hci := (shared_recv m ρ K c j) $$ Hsh
  icases Hci with ⟨#HI, #Hr⟩
  iapply (Rounds.wp_wait_rest_token 𝒱₀ ER (xRd m ρ) (c : Thread nD τ) none (κ := K (c, rIx j))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c j)) $$ Hpay
  imod (Rounds.cell_close ER (xRd m ρ) (Set.mem_univ (K (c, rIx j))) (fun h => h) (R := 0 + 1) (duties_later m ρ (recvCell c j))) $$ [Hat] with Hz
  · isplitr; · iexact HI
    iexact Hat
  iapply Hk
  isplitl [HO]; · iexists _; iexact HO
  isplitl [Hz] <;> iassumption

/-- The wait for copy `k` sent: the share of slot 0 lent to it, the cell closed. -/
theorem step_sent {Q : α → sProp 𝕄} (k : Fin 3) (c : Dev nD) {s : DmaSem sig} (hs : s = sendSem k)
    {src dst : Memref sig .tc .vmem S2x512 .f32} (hd : dst = slotM 0) {hsrc : src.view.WordExact} {hdst : dst.view.WordExact} :
    iprop(shared m ρ K ∗ cred (tallyAt (sendCell c k) () N) ∗ owesS c 0 ∗ atPos ER (sendCell c k) 0 ∅ 0)
      ⊢ iprop(((owesS c 0 ∗ semVal (sendCell c k) 0 ∗ slotPts c 0 (qLent k) (gath m ρ c)) -∗ wpB c (kk ⟨⟩) Q)
          -∗ wpB c (.op (.waitDma2 s src dst hsrc hdst) kk) Q) := by
  subst hs; subst hd
  iintro ⟨#Hsh, Hc, ⟨%W, HO⟩, Hat⟩ Hk
  ihave Hci := (shared_send m ρ K c k) $$ Hsh
  icases Hci with ⟨#HI, #Hr⟩
  iapply (Rounds.wp_wait_rest_token 𝒱₀ ER (xRd m ρ) (c : Thread nD τ) none (κ := K (c, sIx k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c k)) $$ Hpay
  imod (Rounds.cell_close ER (xRd m ρ) (Set.mem_univ (K (c, sIx k))) (fun h => h) (R := 0 + 1) (duties_later m ρ (sendCell c k))) $$ [Hat] with Hz
  · isplitr; · iexact HI
    iexact Hat
  iapply Hk
  isplitl [HO]; · iexists _; iexact HO
  isplitl [Hz] <;> iassumption

end Steps

/-- Three things one after the other. -/
theorem three (Φ : Fin 3 → sProp 𝕄) : bigSep Finset.univ Φ = iprop(Φ 0 ∗ Φ 1 ∗ Φ 2) := by
  rw [bigSep_univ_eq_bigSepL [0, 1, 2] (by decide) (by decide)]; rfl

/-! ## The slots taken apart and put together -/

/-- The four-slot buffer is its four slots. -/
theorem slots_split (c : Dev nD) (q : PosShare TreeShare) (f : (cc0_scratch0 : Ref sig .tc).ty.Contents (Elt F)) :
    ((((c : Thread nD τ).loc cc0_scratch0) ↦{q} f) : sProp 𝕄)
      = iprop(slotPts c 0 q f ∗ slotPts c 1 q f ∗ slotPts c 2 q f ∗ slotPts c 3 q f) := by
  rw [slots_eq, bigSep_univ_eq_bigSepL [0, 1, 2, 3] (by decide) (by decide)]; rfl

/-- A slot is the share kept and the three lent. -/
theorem slot_lend (c : Dev nD) (o : Fin 4) (f : (cc0_scratch0 : Ref sig .tc).ty.Contents (Elt F)) :
    (slotPts c o fullShare f : sProp 𝕄)
      = iprop(slotPts c o qKeep f ∗ slotPts c o (qLent 0) f ∗ slotPts c o (qLent 1) f ∗ slotPts c o (qLent 2) f) := by
  unfold slotPts
  refine (BI.Entails.antisymm (pointsTo_toks fullShare 3).1 (pointsTo_toks fullShare 3).2).trans ?_
  rw [bigSep_univ_eq_bigSepL [0, 1, 2] (by decide) (by decide)]; rfl

/-- A slot with equal contents on it. -/
theorem slot_congr (c : Dev nD) (o : Fin 4) (q : PosShare TreeShare) {f g : (cc0_scratch0 : Ref sig .tc).ty.Contents (Elt F)}
    (h : ∀ i ∈ (slotM o).view.set, f i = g i) : (slotPts c o q f : sProp 𝕄) = slotPts c o q g := by
  unfold slotPts; exact pointsTo_congr h

/-- What a load within slot 0 reads lies in slot 0. -/
theorem load_sub (r : Rect S4x2x512) (hw : LoadRect.within (slotR 0) r.toLoadRect = true) :
    gM.view.setOn r.toLoadRect.set ⊆ (slotM 0).view.set := by
  refine (Memref.setOn_subset_slice_of_within gM (slotR 0) (fun _ => rfl) r.toLoadRect hw).trans (le_of_eq ?_)
  exact (Memref.set_view_squeeze _ _).symm

/-- What a store within slot 0 writes lies in slot 0. -/
theorem store_sub (r : Rect S4x2x512) (hw : LoadRect.within (slotR 0) r.toLoadRect = true) :
    (gM.access r).setOn Finset.univ ⊆ (slotM 0).view.set := by
  refine (Memref.setOn_access_subset_slice_of_within gM (slotR 0) (fun _ => rfl) r Finset.univ hw).trans (le_of_eq ?_)
  exact (Memref.set_view_squeeze _ _).symm

/-- The rows of slot 0 lie in it. -/
theorem top_within : LoadRect.within (slotR 0) rTop0.toLoadRect = true := by decide
/-- The rows of slot 0 lie in it. -/
theorem bot_within : LoadRect.within (slotR 0) rBot0.toLoadRect = true := by decide

/-! ## The body, from start to end -/

section Whole

variable (K : Dev nD × Fin 7 → ℕ)

/-- A staging buffer with known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from … -/
def bodyPre (c : Dev nD) : sProp 𝕄 :=
  iprop((shared m ρ K ∗ lin c ∗ credits c ∗ levAts L lv
      ∗ ∃ f : (cc0_scratch0 : Ref sig .tc).ty.Contents (Elt F), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- … and to. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- Reading the whole staged block. -/
theorem read_x (f : (cc0_stg0_0 : Ref sig .tc).ty.Contents (Elt F)) :
    xM.view.readAt (Elt F) (Rect.unit (s := S1024x512) ![0, 0] S1024x512.size inb_S1024x512_S1024x512_0_0).toLoadRect f = f :=
  Memref.readAt_unit_zero (Elt F) cc0_stg0_0 (funext fun a => by fin_cases a <;> rfl) _ f

set_option maxHeartbeats 1600000 in
/-- The body runs. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton, k0_part1_eq_skeleton, k0_part2_eq_skeleton, k0_part3_eq_skeleton, k0_part4_eq_skeleton]
  unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre lin credits
  iintro ⟨⟨⟨#Hsh, ⟨HatB, Hlin⟩, ⟨HcB, HcR⟩, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = ow1 c + owB 0 c from rfl]
  ihave Hlin := (Entails.of_eq (three (linK (F := F) c))) $$ Hlin
  ihave HcR := (Entails.of_eq (three fun j : Fin 3 => (cred (tallyAt (recvCell c j) () N) : sProp 𝕄))) $$ HcR
  unfold linK
  icases Hlin with ⟨⟨HS0, HR0, HtB0, HtR0, HtS0⟩, ⟨HS1, HR1, HtB1, HtR1, HtS1⟩, ⟨HS2, HR2, HtB2, HtR2, HtS2⟩⟩
  icases HcR with ⟨Hc0, Hc1, Hc2⟩
  ihave Hscr := (Entails.of_eq (slots_split c fullShare f0)) $$ Hscr
  icases Hscr with ⟨Hs0, Hs1, Hs2, Hs3⟩
  -- the three signals
  iapply (step_signal m ρ K 0 c _ (dev1_eq c) (ow1 c) rfl) $$ [HO HtB0 Hs1]
  · isplitr; · iexact Hsh
    isplitl [HO]; · iexists W; iexact HO
    isplitl [HtB0]; · iexact HtB0
    iexists f0; iexact Hs1
  iintro HO
  iapply (step_signal m ρ K 1 c _ (dev2_eq c) (ow2 c) rfl) $$ [HO HtB1 Hs2]
  · isplitr; · iexact Hsh
    isplitl [HO]; · iexact HO
    isplitl [HtB1]; · iexact HtB1
    iexists f0; iexact Hs2
  iintro HO
  iapply (step_signal m ρ K 2 c _ (dev3_eq c) (ow3 c) rfl) $$ [HO HtB2 Hs3]
  · isplitr; · iexact Hsh
    isplitl [HO]; · iexact HO
    isplitl [HtB2]; · iexact HtB2
    iexists f0; iexact Hs3
  iintro HO
  -- the block's own pair, into slot 0
  iapply (wp_load 𝒱₀ (c : Thread nD τ) none Set.univ (m := xM) (Finset.subset_univ _)) $$ Hx; iintro Hx
  rw [read_x]
  unfold slotPts
  iapply (wp_load 𝒱₀ (c : Thread nD τ) none Set.univ (m := gM) (load_sub rTop0 top_within)) $$ Hs0; iintro Hs0
  iapply (wp_store 𝒱₀ (c : Thread nD τ) none Set.univ (m := gM) (r := rTop0) (Mk := Finset.univ) (store_sub rTop0 top_within)) $$ Hs0; iintro Hs0
  iapply (wp_load 𝒱₀ (c : Thread nD τ) none Set.univ (m := gM) (load_sub rBot0 bot_within)) $$ Hs0; iintro Hs0
  iapply (wp_store 𝒱₀ (c : Thread nD τ) none Set.univ (m := gM) (r := rBot0) (Mk := Finset.univ) (store_sub rBot0 bot_within)) $$ Hs0; iintro Hs0
  ihave Hs0 := (Entails.of_eq ((pointsTo_congr (write_mine m ρ c f0)).trans (show _ = slotPts c 0 fullShare (gath m ρ c) from rfl))) $$ Hs0
  ihave Hs0 := (Entails.of_eq (slot_lend c 0 (gath m ρ c))) $$ Hs0
  icases Hs0 with ⟨Hk0, Hl00, Hl01, Hl02⟩
  -- the barrier
  iapply (step_barrier m ρ K c rfl) $$ [HcB HO HatB]
  · isplitr; · iexact Hsh
    isplitl [HcB]; · iexact HcB
    isplitl [HO]; · iexact HO
    isplitr; · iexact Hlev
    iexact HatB
  iintro ⟨HO, HzB, Hb0, Hb1, Hb2⟩
  -- the three copies
  iapply (step_send m ρ K 0 c _ (dev4_eq c) (ow4 c) rfl rfl rfl rfl) $$ [Hl00 Hb0 HO HtS0 HtR0]
  · isplitr; · iexact Hsh
    isplitl [Hl00]; · iexact Hl00
    isplitl [Hb0]; · iexact Hb0
    isplitl [HO]; · iexact HO
    isplitl [HtS0] <;> iassumption
  iintro ⟨Hd0, HO⟩
  iapply (step_send m ρ K 1 c _ (dev5_eq c) (ow5 c) rfl rfl rfl rfl) $$ [Hl01 Hb1 HO HtS1 HtR1]
  · isplitr; · iexact Hsh
    isplitl [Hl01]; · iexact Hl01
    isplitl [Hb1]; · iexact Hb1
    isplitl [HO]; · iexact HO
    isplitl [HtS1] <;> iassumption
  iintro ⟨Hd1, HO⟩
  iapply (step_send m ρ K 2 c _ (dev6_eq c) 0 rfl rfl rfl rfl) $$ [Hl02 Hb2 HO HtS2 HtR2]
  · isplitr; · iexact Hsh
    isplitl [Hl02]; · iexact Hl02
    isplitl [Hb2]; · iexact Hb2
    isplitl [HO]; · iexact HO
    isplitl [HtS2] <;> iassumption
  iintro ⟨Hd2, HO⟩
  -- the three receive waits
  iapply (step_recv m ρ K 0 c rfl rfl) $$ [Hc0 HO HR0]
  · isplitr; · iexact Hsh
    isplitl [Hc0]; · iexact Hc0
    isplitl [HO] <;> iassumption
  iintro ⟨HO, Hzr0, Hs1⟩
  iapply (step_recv m ρ K 1 c rfl rfl) $$ [Hc1 HO HR1]
  · isplitr; · iexact Hsh
    isplitl [Hc1]; · iexact Hc1
    isplitl [HO] <;> iassumption
  iintro ⟨HO, Hzr1, Hs2⟩
  iapply (step_recv m ρ K 2 c rfl rfl) $$ [Hc2 HO HR2]
  · isplitr; · iexact Hsh
    isplitl [Hc2]; · iexact Hc2
    isplitl [HO] <;> iassumption
  iintro ⟨HO, Hzr2, Hs3⟩
  -- the whole buffer, at the share kept
  ihave Hs1 := (Entails.of_eq (show slotPts c (Fin.succ 0) fullShare (gath m ρ c) = _ from slot_lend c 1 (gath m ρ c))) $$ Hs1
  icases Hs1 with ⟨Hk1, Hl1⟩
  ihave Hs2 := (Entails.of_eq (show slotPts c (Fin.succ 1) fullShare (gath m ρ c) = _ from slot_lend c 2 (gath m ρ c))) $$ Hs2
  icases Hs2 with ⟨Hk2, Hl2⟩
  ihave Hs3 := (Entails.of_eq (show slotPts c (Fin.succ 2) fullShare (gath m ρ c) = _ from slot_lend c 3 (gath m ρ c))) $$ Hs3
  icases Hs3 with ⟨Hk3, Hl3⟩
  ihave Hall := (Entails.of_eq (slots_split c qKeep (gath m ρ c)).symm) $$ [Hk0 Hk1 Hk2 Hk3]
  · isplitl [Hk0]; · iexact Hk0
    isplitl [Hk1]; · iexact Hk1
    isplitl [Hk2] <;> iassumption
  iapply (wp_load 𝒱₀ (c : Thread nD τ) none Set.univ (m := gM) (Finset.subset_univ _)) $$ Hall; iintro Hall
  iapply (wp_load 𝒱₀ (c : Thread nD τ) none Set.univ (m := gM) (Finset.subset_univ _)) $$ Hall; iintro Hall
  rw [show gM.view.readAt (Elt F) _ (gath m ρ c) = _ from read_tops m ρ c, show gM.view.readAt (Elt F) _ (gath m ρ c) = _ from read_bots m ρ c]
  -- the result
  iapply (wp_load 𝒱₀ (c : Thread nD τ) none Set.univ (m := oM) (Finset.subset_univ _)) $$ Hout; iintro Hout
  iapply (wp_store 𝒱₀ (c : Thread nD τ) none Set.univ (m := oM) (r := oTop) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := oBot) (Mk := Finset.univ) (Finset.subset_univ _)) $$ Hout; iintro Hout
  rw [write_out]
  -- the three send waits
  iapply (step_sent m ρ K 0 c rfl rfl) $$ [Hd0 HO HS0]
  · isplitr; · iexact Hsh
    isplitl [Hd0]; · iexact Hd0
    isplitl [HO] <;> iassumption
  iintro ⟨HO, Hzs0, Hl00⟩
  iapply (step_sent m ρ K 1 c rfl rfl) $$ [Hd1 HO HS1]
  · isplitr; · iexact Hsh
    isplitl [Hd1]; · iexact Hd1
    isplitl [HO] <;> iassumption
  iintro ⟨HO, Hzs1, Hl01⟩
  iapply (step_sent m ρ K 2 c rfl rfl) $$ [Hd2 HO HS2]
  · isplitr; · iexact Hsh
    isplitl [Hd2]; · iexact Hd2
    isplitl [HO] <;> iassumption
  iintro ⟨⟨%W', HO⟩, Hzs2, Hl02⟩
  simp only [wp_ret]; imodintro
  -- the whole buffer again
  ihave Hall := (Entails.of_eq (slots_split c qKeep (gath m ρ c))) $$ Hall
  icases Hall with ⟨Hk0, Hk1, Hk2, Hk3⟩
  ihave Hs0 := (Entails.of_eq (slot_lend c 0 (gath m ρ c)).symm) $$ [Hk0 Hl00 Hl01 Hl02]
  · isplitl [Hk0]; · iexact Hk0
    isplitl [Hl00]; · iexact Hl00
    isplitl [Hl01] <;> iassumption
  ihave Hs1 := (Entails.of_eq (slot_lend c 1 (gath m ρ c)).symm) $$ [Hk1 Hl1]
  · isplitl [Hk1] <;> iassumption
  ihave Hs2 := (Entails.of_eq (slot_lend c 2 (gath m ρ c)).symm) $$ [Hk2 Hl2]
  · isplitl [Hk2] <;> iassumption
  ihave Hs3 := (Entails.of_eq (slot_lend c 3 (gath m ρ c)).symm) $$ [Hk3 Hl3]
  · isplitl [Hk3] <;> iassumption
  ihave Hscr := (Entails.of_eq (slots_split c fullShare (gath m ρ c)).symm) $$ [Hs0 Hs1 Hs2 Hs3]
  · isplitl [Hs0]; · iexact Hs0
    isplitl [Hs1]; · iexact Hs1
    isplitl [Hs2] <;> iassumption
  iapply Hk
  unfold bodyPost Φ₁ Dat.owesAt Pipeline.owesWithin
  rw [show (dats m ρ 0 c).owed t₀.succ = 0 from rfl]
  isplitl [Hscr HzB Hzs0 Hzs1 Hzs2 Hzr0 Hzr1 Hzr2]
  · isplitl [Hscr]; · iexact Hscr
    isplitl [HzB]; · iexact HzB
    isplitl [Hzs0 Hzs1 Hzs2]
    · isplitl [Hzs0]; · iexact Hzs0
      isplitl [Hzs1] <;> iassumption
    isplitl [Hzr0]; · iexact Hzr0
    isplitl [Hzr1] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- What the pipeline runs the body from. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's obligation on the body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hsh, Hlin⟩, Hcr, Hlev⟩, Hscr⟩, Ho, Hx, Hout⟩
  iapply (sound_body m ρ K c fun _ => bodyPost m ρ c)
  unfold bodyPre
  isplitr []
  · isplitl [Hsh Hlin Hcr Hlev Hscr]
    · isplitl [Hsh]; · iexact Hsh
      isplitl [Hlin]; · iexact Hlin
      isplitl [Hcr]; · iexact Hcr
      isplitl [Hlev] <;> iassumption
    isplitl [Ho]; · iexact Ho
    isplitl [Hx] <;> iassumption
  · iintro H; iexact H

end Whole

end Cert.KernelIdeal.Exchange
-- ==== Proof.IdealRun.Launch.lean ====
/-
# The exchange launched

The resources of the launch are dealt to the four devices: each cell of the exchange gets its invariant, each device the
tokens of the duties it pays and the credits of the waits others pay. The launch theorem then gives the run.
-/
module

public import proofs.«01_k».proof.Proof.IdealRun.Body
public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The six DMA semaphores of the exchange are no staging semaphore's. -/
theorem ownSemFacts : Pipeline.OwnSemFacts cfg0.spec osem := by decide

/-- Every array is held whole. -/
theorem share_eq (c : Dev nD) (w : Fin cfg0.W) : (dats m ρ 0 c).share w = fullShare := by unfold Dat.share; split <;> rfl

/-- The seven semaphores are different. -/
theorem csem_injective : Function.Injective csem := by decide

/-- The cells are different. -/
theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The cells of the exchange. -/
def theCells : Finset (GSem nD τ sig) := Finset.univ.map ⟨kcell, kcell_injective⟩

/-- The semaphore and the duty of token `(t, k)`: `t = 0` is duty `k` of the barrier, `t = 1` the duty of send cell `k`,
    `t = 2` the duty of receive cell `k`. -/
abbrev tokSem : Fin 3 × Fin 3 → SemLoc sig × Fin 3 :=
  fun tk => match tk.1 with
    | 0 => (.reg barS, tk.2)
    | 1 => (.dma (sendSem tk.2), 0)
    | 2 => (.dma (recvSem tk.2), 0)

/-- They are different. -/
theorem tokSem_injective : Function.Injective tokSem := by decide

/-- The tokens of the exchange: of each device's cells, one for each duty. -/
abbrev tokOf (x : Dev nD × (Fin 3 × Fin 3)) : GSem nD τ sig × ℕ × Fin 3 :=
  (((x.1 : Thread nD τ), (tokSem x.2).1), 0, (tokSem x.2).2)

/-- The tokens are different. -/
theorem tokOf_injective : Function.Injective tokOf := by
  rintro ⟨c, j⟩ ⟨c', j'⟩ h
  have h1 : c = c' := congrArg (fun x : GSem nD τ sig × ℕ × Fin 3 => x.1.1.1) h
  have h2 : j = j' := tokSem_injective (Prod.ext (congrArg (fun x : GSem nD τ sig × ℕ × Fin 3 => x.1.2) h)
    (congrArg (fun x : GSem nD τ sig × ℕ × Fin 3 => x.2.2) h))
  rw [h1, h2]

/-- The tokens. -/
def theToks : Finset (GSem nD τ sig × ℕ × Fin 3) := Finset.univ.map ⟨tokOf, tokOf_injective⟩

/-- The launch element: the pipeline's part and the exchange's. -/
def u₀ : UU :=
  (initOf (Pipeline.cells cfgs cellOf_inj) (Pipeline.launchToks cfgs cellOf_inj), initOf theCells theToks)

/-- The tokens of the duties of device `c`'s own cells. -/
def toks (c : Dev nD) : sProp 𝕄 :=
  iprop((bigSep Finset.univ fun k : Fin 3 => dutyTok ER (barCell c) 0 k)
    ∗ (bigSep Finset.univ fun k : Fin 3 => dutyTok ER (sendCell c k) 0 (0 : Fin 3))
    ∗ (bigSep Finset.univ fun k : Fin 3 => dutyTok ER (recvCell c k) 0 (0 : Fin 3)))

/-- What the launch element gives device `c`. -/
def G (c : Dev nD) : sProp 𝕄 :=
  iprop((bigSep Finset.univ fun k : Fin 7 => roundState ER (xRd m ρ) (kcell (c, k)) 0)
    ∗ (bigSep Finset.univ fun k : Fin 7 => iprop(atPos ER (kcell (c, k)) 0 ∅ 0 ∗ reached ER (kcell (c, k)) 0)) ∗ toks c)

/-- What device `c` has when the invariants are set up. -/
def G' (c : Dev nD) : sProp 𝕄 := iprop(∃ K, shared m ρ K ∗ lin c)

/-- The launch element dealt. -/
theorem fund_exchange : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 7 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    refine bigSep_congr fun c _ => ?_
    rw [bigSep_univ_prod, three]; rfl
  iintro HX
  imod (Rounds.fund ER (xRd m ρ) theCells theToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- Seven things: the first, and two times three. -/
theorem seven (Φ : Fin 7 → sProp 𝕄) :
    bigSep Finset.univ Φ = iprop(Φ 0 ∗ (Φ 1 ∗ Φ 2 ∗ Φ 3) ∗ Φ 4 ∗ Φ 5 ∗ Φ 6) := by
  have h : bigSep Finset.univ Φ = iprop(Φ 0 ∗ Φ 1 ∗ Φ 2 ∗ Φ 3 ∗ Φ 4 ∗ Φ 5 ∗ Φ 6) := by
    rw [bigSep_univ_eq_bigSepL [0, 1, 2, 3, 4, 5, 6] (by decide) (by decide)]; rfl
  rw [h]
  refine BI.Entails.antisymm ?_ ?_
  · show (_ : sProp 𝕄) ⊢ _
    iintro ⟨H0, H1, H2, H3, H⟩
    isplitl [H0]; · iexact H0
    isplitl [H1 H2 H3]
    · isplitl [H1]; · iexact H1
      isplitl [H2] <;> iassumption
    iexact H
  · show (_ : sProp 𝕄) ⊢ _
    iintro ⟨H0, ⟨H1, H2, H3⟩, H⟩
    isplitl [H0]; · iexact H0
    isplitl [H1]; · iexact H1
    isplitl [H2]; · iexact H2
    isplitl [H3] <;> iassumption

/-- The kernel's own six counters at zero. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl

/-- The barrier's counter at zero is the launch's one unscoped counter. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All seven. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, seven]
  iintro ⟨⟨H1, H2, H3, H⟩, HB⟩
  isplitl [HB]; · iexact HB
  isplitl [H1 H2 H3]
  · isplitl [H1]; · iexact H1
    isplitl [H2] <;> iassumption
  iexact H

/-- The invariants of one device's cells set up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Tokens to the devices that pay -/

/-- Number `k` of device `c` and number `2 - k` of `peer k c` belong together. -/
def around : Dev nD × Fin 3 ≃ Dev nD × Fin 3 where
  toFun x := (peer x.2 x.1, x.2.rev)
  invFun x := (peer x.2 x.1, x.2.rev)
  left_inv x := Prod.ext (peer_rev x.2 x.1) (Fin.rev_rev x.2)
  right_inv x := Prod.ext (peer_rev x.2 x.1) (Fin.rev_rev x.2)

/-- What all devices have for all numbers may be dealt around. -/
theorem deal_around (Φ : Dev nD → Fin 3 → sProp 𝕄) :
    (bigSep Finset.univ fun c : Dev nD => bigSep Finset.univ fun k : Fin 3 => Φ c k)
      = bigSep Finset.univ fun c : Dev nD => bigSep Finset.univ fun k : Fin 3 => Φ (peer k c) k.rev := by
  rw [← bigSep_univ_prod (fun x : Dev nD × Fin 3 => Φ x.1 x.2), ← bigSep_univ_prod (fun x : Dev nD × Fin 3 => Φ (peer x.2 x.1) x.2.rev),
    bigSep_univ_equiv around (fun x : Dev nD × Fin 3 => Φ x.1 x.2)]
  rfl

/-- The positions of a device's cells, number by number. -/
theorem positions (c : Dev nD) :
    (bigSep Finset.univ fun k : Fin 7 => (atPos ER (kcell (c, k)) 0 ∅ 0 : sProp 𝕄))
      = iprop(atPos ER (barCell c) 0 ∅ 0 ∗ (bigSep Finset.univ fun k : Fin 3 => atPos ER (sendCell c k) 0 ∅ 0)
        ∗ bigSep Finset.univ fun k : Fin 3 => atPos ER (recvCell c k) 0 ∅ 0) := by
  rw [seven, three, three]

/-- The devices' own parts out of the positions and the tokens. -/
theorem lin_all :
    iprop((bigSep Finset.univ fun c : Dev nD => bigSep Finset.univ fun k : Fin 7 => (atPos ER (kcell (c, k)) 0 ∅ 0 : sProp 𝕄))
        ∗ bigSep Finset.univ fun c : Dev nD => (toks c : sProp 𝕄))
      ⊢ bigSep Finset.univ fun c : Dev nD => (lin c : sProp 𝕄) := by
  unfold lin linK toks
  simp only [positions, bigSep_sep']
  rw [deal_around fun c k => (dutyTok ER (barCell c) 0 k : sProp 𝕄), deal_around fun c k => (dutyTok ER (recvCell c k) 0 (0 : Fin 3) : sProp 𝕄)]
  iintro ⟨⟨HB, HS, HR⟩, HtB, HtS, HtR⟩
  isplitl [HB]; · iexact HB
  isplitl [HS]; · iexact HS
  isplitl [HR]; · iexact HR
  isplitl [HtB]; · iexact HtB
  isplitl [HtR] <;> iassumption

/-- Something persistent goes to every one. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices have, shared out. -/
theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (xRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (xRd m ρ) κ (kcell ck) : sProp 𝕄))) $$ HI
  icases HK with ⟨%K, #HI⟩
  ihave Hl := (lin_all (F := F)) $$ [Hat Htok]
  · isplitl [Hat] <;> iassumption
  iapply (bigSep_with_persistent (R := shared m ρ K) (Φ := fun c => lin c) fun c _ => by
    unfold G'; iintro ⟨H1, H2⟩; iexists K; isplitl [H1] <;> iassumption)
  isplitr
  · unfold shared; rw [bigSep_sep']; isplitl; · iexact HI
    iexact HR
  · iexact Hl

/-- The invariants of all devices' cells set up at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits of the launch -/

/-- Two barrier cells are equal when their devices are. -/
theorem bar_eq_iff {a b : Dev nD} : (barCell a = barCell b) ↔ (a = b) :=
  ⟨fun h => congrArg (fun g : GSem nD τ sig => g.1.1) h, fun h => h ▸ rfl⟩
/-- Two receive cells are equal when their devices and numbers are. -/
theorem recv_eq_iff {a b : Dev nD} {i j : Fin 3} : (recvCell a i = recvCell b j) ↔ (a = b ∧ i = j) := by
  refine ⟨fun h => ⟨congrArg (fun g : GSem nD τ sig => g.1.1) h, ?_⟩, fun h => by rw [h.1, h.2]⟩
  have h2 : (SemLoc.dma (recvSem i) : SemLoc sig) = .dma (recvSem j) := congrArg Prod.snd h
  clear h; revert h2; revert i j; decide
/-- No barrier cell is a receive cell. -/
theorem bar_ne_recv {a b : Dev nD} {j : Fin 3} : barCell a ≠ recvCell b j := fun h => by
  have h2 : (SemLoc.reg barS : SemLoc sig) = .dma (recvSem j) := congrArg Prod.snd h
  cases h2

/-- What device `d` owes device `c`'s barrier: one unit for each of its signals that goes there. -/
theorem owed_bar (d c : Dev nD) : O₀ d (barCell c) ()
    = (if c = peer 2 d then 1 else 0) + (if c = peer 1 d then 1 else 0) + (if c = peer 0 d then 1 else 0) := by
  unfold O₀ ow1 ow2 ow3 ow4 ow5
  simp only [Pi.add_apply, Finsupp.add_apply, tallyAt_apply, bar_eq_iff, bar_ne_recv, and_true, false_and, if_false, Nat.zero_add,
    Pi.zero_apply, Finsupp.zero_apply]

/-- What device `d` owes device `c`'s receive cell `j`: the credit of the copy of `d` that fills its slot. -/
theorem owed_recv (d c : Dev nD) (j : Fin 3) : O₀ d (recvCell c j) () = if d = peer j c then N else 0 := by
  unfold O₀ ow1 ow2 ow3 ow4 ow5
  simp only [Pi.add_apply, Finsupp.add_apply, tallyAt_apply, recv_eq_iff, bar_ne_recv.symm, and_true, false_and, if_false, Nat.zero_add,
    Pi.zero_apply, Finsupp.zero_apply, Nat.add_zero]
  generalize N = n
  fin_cases d <;> fin_cases c <;> fin_cases j <;> simp [offs, Fin.ext_iff]

/-- The launch credit of a barrier cell. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- The launch credit of a receive cell. -/
theorem launch_recv (c : Dev nD) (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer j c) fun _ => N, if_pos (Finset.mem_univ _)]

/-- The credits of device `c` out of the launch's. -/
theorem creds (c : Dev nD) : (Pipeline.launchCred O₀ c : sProp 𝕄) ⊢ credits c := by
  unfold Pipeline.launchCred credits
  rw [bigSep_univ_at _ (SemLoc.reg barS), launch_bar]
  refine sep_mono_right ?_
  have h : (Finset.univ.map ⟨fun j : Fin 3 => (SemLoc.dma (recvSem j) : SemLoc sig), by decide⟩)
      ⊆ Finset.univ.erase (SemLoc.reg barS) := by decide
  refine (bigSep_subset h).trans ?_
  rw [bigSep_map]
  have e : ∀ j ∈ (Finset.univ : Finset (Fin 3)),
      (cred (tallyOn (recvCell c j) (launchCredit (Pipeline.owing O₀) 0 (recvCell c j))) : sProp 𝕄) = cred (tallyAt (recvCell c j) () N) :=
    fun j _ => by rw [launch_recv c j]
  exact (bigSep_mono fun j hj => Entails.of_eq (e j hj))

/-! ## The side conditions of the launch theorem -/

/-- The body's start out of what the launch gives. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- What the pipeline carries into the point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What it carries out of it: every counter at zero and the scratch buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzB, ⟨H0, H1, H2⟩, H⟩
  isplitl [HzB]; · iexact HzB
  isplitl [H0 H1 H2 H]
  · isplitl [H0]; · iexact H0
    isplitl [H1]; · iexact H1
    isplitl [H2] <;> iassumption
  iexists (gath m ρ c); iexact Hr

/-- The staging waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array after the run. -/
def finalA (c : Dev nD) (w : Fin cfg0.W) : Buf (Elt F) ((cfg0.win w).arr.view.loc (c : Thread nD τ)) := (dats m ρ 0 c).arrAt w cfg0.N

/-- Every array is as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, from any memory with all counters at zero, every execution ends, with each device's arrays as
    computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is as it was. -/
theorem finalA_x (c : Dev nD) : finalA m ρ c (0 : Fin 2) = m ((c : Thread nD τ).loc main_arg0) :=
  (dats (F := F) m ρ 0 c).arrAt_in (0 : Fin 2) rfl _

/-- The result is what the body left. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  rw [← h]
  exact (Memref.read_access_unit_zero (Elt F) main_v1 (funext fun a => by fin_cases a <;> rfl) _ _).symm

/-- The staged block is the argument. -/
theorem xstg_eq (c : Dev nD) : xstg m ρ c = m ((c : Thread nD τ).loc main_arg0) :=
  Memref.read_access_unit_zero (Elt F) main_arg0 (funext fun a => by fin_cases a <;> rfl) _ _

/-- Every execution ends, with the result as computed, the argument as it was and every counter at zero. -/
theorem run_values : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_out m ρ c),
    (h.1 c (0 : Fin 2)).trans (finalA_x m ρ c)⟩, h.2⟩) (run_main m ρ)

end Cert.KernelIdeal.Exchange

end
-- ==== Proof.Value.First.lean ====
/-
# The first place of a maximum

What both programs compute of a column: its greatest value and the first row that holds it. The two are determined by
`First`. Here are the folds that find them: a fold of `max`, a fold of `min` over the rows' numbers with a bound put in
place of every row that does not hold the maximum, and a fold of pairs that keeps the better of two.
-/
module

public import Idealize.ShloMosaic.PureOps.Ideal.Laws
public import Idealize.ShloMosaic.Lib.ValueIdx

@[expose] public section

noncomputable section

namespace Cert.ColumnMax

open Idealize.ShloMosaic Idealize.ShloMosaic.ValueIdx

/-- `w` is the first place at which `x` takes its greatest value `v`. -/
structure First {n : Nat} (x : Fin n → EReal) (v : EReal) (w : Fin n) : Prop where
  /-- the value is taken there -/
  at_first : x w = v
  /-- nothing is greater -/
  le : ∀ r, x r ≤ v
  /-- it is taken nowhere before -/
  first : ∀ r, x r = v → w ≤ r

/-- A column that is not empty has such a place. -/
theorem First.exists {n : Nat} (x : Fin (n + 1) → EReal) : ∃ v w, First x v w := by
  classical
  obtain ⟨i, hi⟩ := Finite.exists_max x
  obtain ⟨w, hw, hmin⟩ := Set.exists_min_image {r | x r = x i} id (Set.toFinite _) ⟨i, rfl⟩
  exact ⟨x i, w, hw, hi, fun r hr => hmin r hr⟩

/-! ## Folds of `max` and `min` -/

/-- A fold of `max` from the least value is the value that bounds all and is taken. -/
theorem fold_max_eq {α : Type} (S : Finset α) (f : α → EReal) (v : EReal) (hle : ∀ i ∈ S, f i ≤ v) {i : α} (hi : i ∈ S)
    (hv : f i = v) : S.fold max ⊥ f = v :=
  le_antisymm ((Finset.fold_max_le _).2 ⟨bot_le, hle⟩) ((Finset.le_fold_max _).2 (.inr ⟨i, hi, hv.ge⟩))

/-- A fold of `min` from the greatest value is the value that is below all and is taken. -/
theorem fold_min_eq {α : Type} (S : Finset α) (f : α → EReal) (v : EReal) (hle : ∀ i ∈ S, v ≤ f i) {i : α} (hi : i ∈ S)
    (hv : f i = v) : S.fold min ⊤ f = v :=
  le_antisymm ((Finset.fold_min_le _).2 (.inr ⟨i, hi, hv.le⟩)) ((Finset.le_fold_min _).2 ⟨le_top, hle⟩)

/-- The pattern of the least value. -/
theorem ofBits_least : Ideal.ofBits .f32 0xFF800000#32 = ⊥ := by simp [Ideal.ofBits, Ideal.ieee]

/-- The same in the narrower format. -/
theorem ofBits_least_narrow : Ideal.ofBits .bf16 0xFF80#16 = ⊥ := by simp [Ideal.ofBits, Ideal.ieee]

/-- The pattern of the greatest value. -/
theorem ofBits_greatest : Ideal.ofBits .f32 0x7F800000#32 = ⊤ := by simp [Ideal.ofBits, Ideal.ieee]

/-- The bound put in place of a row without the maximum: four thousand million. -/
theorem ofBits_bound : Ideal.ofBits .f32 0x4F6E6B28#32 = ((4000000000 : ℝ) : EReal) := by
  simp [Ideal.ofBits, Ideal.ieee]
  rw [← EReal.coe_pow, ← EReal.coe_mul]
  norm_num

/-! ## Rows' numbers -/

/-- A row's number, as a word and as a value. -/
theorem toInt_row {n : Nat} (hn : n ≤ 4096) (r : Fin n) : (BitVec.ofNat 32 r.val).toInt = (r.val : ℤ) := by
  have := r.isLt
  rw [BitVec.toInt_ofNat']
  simp only [Int.bmod]; omega

/-! ## Reductions down a column -/

/-- Putting a row back into a column's index. -/
theorem lift_row {n p : Nat} (h : (⟨2, ![n, p]⟩ : Shape).Reduces [0] ⟨1, ![p]⟩) (q : Fin p)
    (k : Fin ((⟨2, ![n, p]⟩ : Shape).size 0)) : h.lift (ix1 q) k = ix2 (n0 := n) k q := by
  funext a
  refine Fin.ext ((h.lift_val _ _ _).trans ?_)
  match a with
  | ⟨0, _⟩ => simp [Shape.Reduces.liftVal]
  | ⟨1, _⟩ => simp [Shape.Reduces.liftVal]

/-- A maximum down a column, the bound and the place of the maximum known. -/
theorem reduce_max_eq {n p : Nat} (src : FVec Ideal ⟨2, ![n, p]⟩ .f32) (h : (⟨2, ![n, p]⟩ : Shape).Reduces [0] ⟨1, ![p]⟩)
    (hφ : FKind.Formats .f32) (hacc : 0xFF800000#32 = FKind.maximumf.neutral .f32 hφ) (q : Fin p) (v : EReal)
    (hle : ∀ r, src (ix2 r q) ≤ v) (w : Fin n) (hw : src (ix2 w q) = v) :
    multiReduction .maximumf [0] ⟨1, ![p]⟩ src 0xFF800000#32 h hφ hacc (ix1 q) = v := by
  rw [Ideal.multiReduction_maximumf_single]
  have e : (FloatOps.ofBits .f32 0xFF800000#32 : Ideal .f32) = (⊥ : EReal) := ofBits_least
  rw [e]
  exact fold_max_eq (α := Fin n) _ _ v (fun r _ => (congrArg src (lift_row h q r)).trans_le (hle r)) (Finset.mem_univ w)
    ((congrArg src (lift_row h q w)).trans hw)

/-- A minimum down a column likewise. -/
theorem reduce_min_eq {n p : Nat} (src : FVec Ideal ⟨2, ![n, p]⟩ .f32) (h : (⟨2, ![n, p]⟩ : Shape).Reduces [0] ⟨1, ![p]⟩)
    (hφ : FKind.Formats .f32) (hacc : 0x7F800000#32 = FKind.minimumf.neutral .f32 hφ) (q : Fin p) (v : EReal)
    (hle : ∀ r, v ≤ src (ix2 r q)) (w : Fin n) (hw : src (ix2 w q) = v) :
    multiReduction .minimumf [0] ⟨1, ![p]⟩ src 0x7F800000#32 h hφ hacc (ix1 q) = v := by
  rw [multiReduction_minimumf_eq_fold, h.fold_filter_drop_single]
  have e : (FloatOps.ofBits .f32 0x7F800000#32 : Ideal .f32) = (⊤ : EReal) := ofBits_greatest
  rw [e]
  exact fold_min_eq (α := Fin n) _ _ v (fun r _ => (hle r).trans_eq (congrArg src (lift_row h q r)).symm) (Finset.mem_univ w)
    ((congrArg src (lift_row h q w)).trans hw)

/-- Choosing between two values where an equality is compared. -/
theorem select_eq {α : Type} (a b : EReal) (p q : α) :
    Scalar.select (FloatOps.cmpf (F := Ideal) (φ := .f32) .oeq a b) p q = if a = b then p else q := by
  rw [Ideal.cmpf_def]
  by_cases h : a = b <;> simp [Ideal.cmp, Scalar.select, h]

/-! ## The fold of pairs -/

/-- One step: the pair with the greater value, of two equal values the one with the lesser number. -/
def better (a b : EReal × BitVec 32) : EReal × BitVec 32 :=
  if b.1 < a.1 then a else if a.1 = b.1 ∧ a.2.toInt < b.2.toInt then (b.1, a.2) else b

/-- What a fold of `better` from the least value and number 0 arrives at: a pair that was folded, or the initial one; no
    value folded is greater; and the number is the least of those that come with the same value. -/
theorem foldl_better (l : List (EReal × BitVec 32)) :
    (l.foldl better (⊥, 0#32) = (⊥, 0#32) ∨ l.foldl better (⊥, 0#32) ∈ l)
      ∧ ∀ p ∈ l, p.1 ≤ (l.foldl better (⊥, 0#32)).1
        ∧ (p.1 = (l.foldl better (⊥, 0#32)).1 → (l.foldl better (⊥, 0#32)).2.toInt ≤ p.2.toInt) := by
  induction l using List.reverseRecOn with
  | nil => simp
  | append_singleton l b ih =>
    rw [List.foldl_append, List.foldl_cons, List.foldl_nil]
    generalize l.foldl better (⊥, 0#32) = a at ih ⊢
    obtain ⟨ha, hall⟩ := ih
    rw [better]
    by_cases h1 : b.1 < a.1
    · rw [if_pos h1]
      refine ⟨ha.imp id fun h => by simp [h], fun p hp => ?_⟩
      rcases List.mem_append.1 hp with hp | hp
      · exact hall p hp
      · obtain rfl := List.mem_singleton.1 hp
        exact ⟨h1.le, fun e => absurd e h1.ne⟩
    · rw [if_neg h1]
      by_cases h2 : a.1 = b.1 ∧ a.2.toInt < b.2.toInt
      · rw [if_pos h2]
        have e : (b.1, a.2) = a := Prod.ext h2.1.symm rfl
        rw [e]
        refine ⟨ha.imp id fun h => by simp [h], fun p hp => ?_⟩
        rcases List.mem_append.1 hp with hp | hp
        · exact hall p hp
        · obtain rfl := List.mem_singleton.1 hp
          exact ⟨h2.1.ge, fun _ => h2.2.le⟩
      · rw [if_neg h2]
        refine ⟨.inr (by simp), fun p hp => ?_⟩
        rcases List.mem_append.1 hp with hp | hp
        · have hle := (hall p hp).1.trans (not_lt.1 h1)
          refine ⟨hle, fun e => ?_⟩
          have hab : a.1 = b.1 := le_antisymm (not_lt.1 h1) (e ▸ (hall p hp).1)
          have := (hall p hp).2 (e.trans hab.symm)
          have := not_lt.1 fun h => h2 ⟨hab, h⟩
          omega
        · obtain rfl := List.mem_singleton.1 hp
          exact ⟨le_rfl, fun _ => le_rfl⟩

end Cert.ColumnMax

end
-- ==== Proof.Value.KernelValue.lean ====
/-
# What the kernel computes of a column

Every device finds the greatest value of its block's column and the first row that holds it, as a row of the whole array;
of the four pairs it then takes the greatest value and the first row that comes with it. That is the first place of the
whole column's maximum, whatever order the four pairs are in.
-/
module

public import proofs.«01_k».proof.Proof.IdealRun.Launch
public import proofs.«01_k».proof.Proof.Value.First
public import Idealize.ShloMosaic.Lib.Pipeline.Value

@[expose] public section

noncomputable section

namespace Cert.KernelIdeal.Value

open Cert.KernelIdeal Cert.KernelIdeal.Gen Cert.KernelIdeal.Exchange
open Idealize.ShloMosaic Idealize.ShloMosaic.ValueIdx Idealize.ShloMosaic.TcCoe
open Cert.ColumnMax

/-! ## Positions -/

/-- A vector of 512 laid out as a row keeps its order. -/
theorem pos_row (q : Fin 512) : (S512.rowMajor (ix1 q)).val = (S1x512.rowMajor (ix2 (0 : Fin 1) q)).val := by
  refine (Shape.rowMajor_val_one _).trans (Eq.trans ?_ (Shape.rowMajor_val_two _).symm)
  show q.val = 0 * 512 + q.val
  rw [Nat.zero_mul, Nat.zero_add]

/-- Four rows keep their order without the unit axis. -/
theorem pos_flat (o : Fin 4) (q : Fin 512) :
    (S4x1x512.rowMajor (ix3 o (0 : Fin 1) q)).val = (S4x512.rowMajor (ix2 o q)).val := by
  refine (Shape.rowMajor_val_three _).trans (Eq.trans ?_ (Shape.rowMajor_val_two _).symm)
  show (o.val * 1 + 0) * 512 + q.val = o.val * 512 + q.val
  rw [Nat.mul_one, Nat.add_zero]

/-- A row of a block is a row of the whole. -/
theorem row_lt (d : Dev nD) (r : Fin 1024) : 1024 * d.val + r.val < 4096 := by
  have h : d.val < 4 := d.isLt
  have := r.isLt
  omega

/-- A row's number is below the bound. -/
theorem row_le_bound {k : ℕ} (h : k < 4096) : ((k : ℝ) : EReal) ≤ ((4000000000 : ℝ) : EReal) := by
  have h' : (k : ℝ) < 4096 := by exact_mod_cast h
  exact EReal.coe_le_coe_iff.2 (by linarith)

/-! ## One device's pair -/

/-- The widened block is the block. -/
theorem pay1_apply (x : Vec Ideal S1024x512 .bf16) (i : S1024x512.Idx) : k0_pay1 (F := Ideal) x i = x i :=
  shapeCast_apply x _ i i rfl

/-- The first row of a device's pair: the column's greatest value. -/
theorem pay2_eq (x : Vec Ideal S1024x512 .bf16) (q : Fin 512) {v : EReal} {w : Fin 1024}
    (h : First (fun r : Fin 1024 => (x (ix2 r q) : EReal)) v w) : k0_pay2 (F := Ideal) x (ix1 q) = v :=
  reduce_max_eq _ _ (.inl rfl) rfl q v (fun r => (pay1_apply x _).trans_le (h.le r)) w ((pay1_apply x _).trans h.at_first)

/-- A vector of columns laid over rows. -/
theorem spread_apply {n : Nat} (y : FVec Ideal S512 .f32) (h : S1x512.Broadcasts ⟨2, ![n, 512]⟩) (h' : S512.ShapeCasts S1x512)
    (r : Fin n) (q : Fin 512) : broadcastTo (⟨2, ![n, 512]⟩ : Shape) (shapeCast S1x512 y h') h (ix2 r q) = y (ix1 q) := by
  rw [broadcastTo_apply _ h _ (ix2 (0 : Fin 1) q) (by intro a; match a with | ⟨0, _⟩ => rfl | ⟨1, _⟩ => rfl)]
  exact shapeCast_apply y _ _ (ix1 q) (pos_row q)

/-- The number of the first row of device `d`'s block. -/
theorem base_eq (d : Dev nD) :
    (Scalar.sitofp (F := Ideal) .f32 (Scalar.muli (Scalar.remsi (Scalar.divsi (Dev.word d) 1#32) 4#32) 1024#32) : EReal)
      = (((1024 * d.val : ℕ) : ℝ) : EReal) := by
  rw [Ideal.scalar_sitofp_def]
  have e : ∀ d : Dev nD, (Scalar.muli (Scalar.remsi (Scalar.divsi (Dev.word d) 1#32) 4#32) 1024#32).toInt = ((1024 * d.val : ℕ) : ℤ) := by
    decide
  rw [e d, Int.cast_natCast]

/-- The rows' numbers, with the bound in place of every row that does not hold its column's greatest value. -/
def rowsOfMax (x : Vec Ideal S1024x512 .bf16) : FVec Ideal S1024x512 .f32 :=
  select (cmpf .oeq (k0_pay1 (F := Ideal) x)
    (broadcastTo S1024x512 (shapeCast S1x512 (k0_pay2 (F := Ideal) x) shapeCasts_S512_S1x512) broadcasts_S1x512_S1024x512))
    (sitofp .f32 (iota .tc S1024x512 32 [0] iota_S1024x512_d0_w32) : FVec Ideal S1024x512 .f32)
    (broadcast S1024x512 (Scalar.ofBits (F := Ideal) .f32 0x4F6E6B28#32))

/-- The second row of a device's pair is a sum. -/
theorem pay3_eq_add (d : Dev nD) (x : Vec Ideal S1024x512 .bf16) : k0_pay3 (F := Ideal) d x
    = addf (multiReduction .minimumf [0] S512 (rowsOfMax x) 0x7F800000#32 reduces_S1024x512_S512 (.inl rfl) rfl)
        (broadcast S512 (Scalar.sitofp (F := Ideal) .f32 (Scalar.muli (Scalar.remsi (Scalar.divsi (Dev.word d) 1#32) 4#32) 1024#32))) :=
  rfl

/-- The second row of a device's pair: the number, in the whole array, of the first row that holds the greatest value. -/
theorem pay3_eq (d : Dev nD) (x : Vec Ideal S1024x512 .bf16) (q : Fin 512) {v : EReal} {w : Fin 1024}
    (h : First (fun r : Fin 1024 => (x (ix2 r q) : EReal)) v w) :
    k0_pay3 (F := Ideal) d x (ix1 q) = (((1024 * d.val + w.val : ℕ) : ℝ) : EReal) := by
  have hsel : ∀ r : Fin 1024, rowsOfMax x (ix2 r q)
      = if (x (ix2 r q) : EReal) = v then ((r.val : ℝ) : EReal) else ((4000000000 : ℝ) : EReal) := by
    intro r
    rw [rowsOfMax, select_apply, cmpf_apply, select_eq, spread_apply, pay1_apply, pay2_eq x q h, sitofp_apply, broadcast_apply]
    congr 1
    · rw [iota_single_apply]
      exact congrArg (fun k : ℤ => ((k : ℝ) : EReal)) (toInt_row (by decide) r)
    · exact ofBits_bound
  have hmin := reduce_min_eq (p := 512) (n := 1024) (rowsOfMax x) reduces_S1024x512_S512 (.inl rfl) rfl q ((w.val : ℝ) : EReal)
    (fun r => by
      rw [hsel r]
      by_cases e : (x (ix2 r q) : EReal) = v
      · rw [if_pos e]; exact_mod_cast h.first r e
      · rw [if_neg e]; exact row_le_bound (w.isLt.trans (by decide))) w
    (by rw [hsel w, if_pos h.at_first])
  have hsum : k0_pay3 (F := Ideal) d x (ix1 q) = ((w.val : ℝ) : EReal) + (((1024 * d.val : ℕ) : ℝ) : EReal) :=
    (congrFun (pay3_eq_add d x) (ix1 q)).trans ((addf_apply _ _ _).trans (congrArg₂ (fun a b : EReal => a + b) hmin (base_eq d)))
  refine hsum.trans ?_
  rw [← EReal.coe_add, EReal.coe_eq_coe_iff, ← Nat.cast_add, Nat.add_comm]

/-! ## The four pairs -/

/-- The four rows without their unit axis. -/
theorem flat_apply (y : Vec Ideal S4x1x512 .f32) (o : Fin 4) (q : Fin 512) :
    shapeCast S4x512 y shapeCasts_S4x1x512_S4x512 (ix2 o q) = y (ix3 o (0 : Fin 1) q) :=
  shapeCast_apply y _ _ (ix3 o (0 : Fin 1) q) (pos_flat o q)

/-- The greatest of the four values. -/
theorem pay7_eq (y : Vec Ideal S4x1x512 .f32) (q : Fin 512) {v : EReal} (hle : ∀ o : Fin 4, (y (ix3 o (0 : Fin 1) q) : EReal) ≤ v)
    (o : Fin 4) (ho : (y (ix3 o (0 : Fin 1) q) : EReal) = v) : k0_pay7 (F := Ideal) y (ix1 q) = v :=
  reduce_max_eq (n := 4) _ _ (.inl rfl) rfl q v (fun r => (flat_apply y r q).trans_le (hle r)) o ((flat_apply y o q).trans ho)

/-- It is the result's first row. -/
theorem pay8_eq (y : Vec Ideal S4x1x512 .f32) (q : Fin 512) {v : EReal} (hle : ∀ o : Fin 4, (y (ix3 o (0 : Fin 1) q) : EReal) ≤ v)
    (o : Fin 4) (ho : (y (ix3 o (0 : Fin 1) q) : EReal) = v) : k0_pay8 (F := Ideal) y (ix2 (0 : Fin 1) q) = v :=
  (shapeCast_apply (k0_pay7 (F := Ideal) y) _ _ (ix1 q) (pos_row q)).trans (pay7_eq y q hle o ho)

/-- The four numbers, with the bound in place of every one whose value is not the greatest. -/
def numbersOfMax (y z : Vec Ideal S4x1x512 .f32) : FVec Ideal S4x512 .f32 :=
  select (cmpf .oeq (k0_pay6 (F := Ideal) y)
    (broadcastTo S4x512 (shapeCast S1x512 (k0_pay7 (F := Ideal) y) shapeCasts_S512_S1x512) broadcasts_S1x512_S4x512))
    (shapeCast S4x512 z shapeCasts_S4x1x512_S4x512)
    (broadcast S4x512 (Scalar.ofBits (F := Ideal) .f32 0x4F6E6B28#32))

/-- The result's second row: the least of the numbers that come with that value, `n`. -/
theorem pay9_eq (y z : Vec Ideal S4x1x512 .f32) (q : Fin 512) {v n : EReal}
    (hle : ∀ o : Fin 4, (y (ix3 o (0 : Fin 1) q) : EReal) ≤ v) (o : Fin 4) (ho : (y (ix3 o (0 : Fin 1) q) : EReal) = v)
    (hz : (z (ix3 o (0 : Fin 1) q) : EReal) = n)
    (hn : ∀ o : Fin 4, (y (ix3 o (0 : Fin 1) q) : EReal) = v → n ≤ z (ix3 o (0 : Fin 1) q))
    (hb : n ≤ ((4000000000 : ℝ) : EReal)) : k0_pay9 (F := Ideal) y z (ix2 (0 : Fin 1) q) = n := by
  have hsel : ∀ r : Fin 4, numbersOfMax y z (ix2 r q)
      = if (y (ix3 r (0 : Fin 1) q) : EReal) = v then (z (ix3 r (0 : Fin 1) q) : EReal) else ((4000000000 : ℝ) : EReal) := by
    intro r
    rw [numbersOfMax, select_apply, cmpf_apply, select_eq, spread_apply, pay7_eq y q hle o ho, broadcast_apply, flat_apply]
    rw [show k0_pay6 (F := Ideal) y (ix2 r q) = y (ix3 r (0 : Fin 1) q) from flat_apply y r q]
    congr 1
    exact ofBits_bound
  have hmin := reduce_min_eq (p := 512) (n := 4) (numbersOfMax y z) reduces_S4x512_S512 (.inl rfl) rfl q n
    (fun r => by
      rw [hsel r]
      by_cases e : (y (ix3 r (0 : Fin 1) q) : EReal) = v
      · rw [if_pos e]; exact hn r e
      · rw [if_neg e]; exact hb) o
    (by rw [hsel o, if_pos ho, hz])
  exact (shapeCast_apply _ _ _ (ix1 q) (pos_row q)).trans hmin

/-! ## The result -/

/-- Slot `o`'s value is that of the device `o` places further; -/
theorem tops_apply (m : (ℓ : Loc nD τ sig) → Buf (Elt Ideal) ℓ) (ρ : Dev nD → PrngReg) (c : Dev nD) (o : Fin 4) (q : Fin 512) :
    tops m ρ c (ix3 o (0 : Fin 1) q) = k0_pay2 (F := Ideal) (xstg m ρ (offs o c)) (ix1 q) := by
  show mine m ρ (offs o c) 0 q = _
  rw [mine, if_pos rfl]

/-- its number likewise. -/
theorem bots_apply (m : (ℓ : Loc nD τ sig) → Buf (Elt Ideal) ℓ) (ρ : Dev nD → PrngReg) (c : Dev nD) (o : Fin 4) (q : Fin 512) :
    bots m ρ c (ix3 o (0 : Fin 1) q) = k0_pay3 (F := Ideal) (offs o c) (xstg m ρ (offs o c)) (ix1 q) := by
  show mine m ρ (offs o c) 1 q = _
  rw [mine, if_neg (by decide)]

/-- Some slot has the pair of device `d`. -/
theorem offs_surj (c d : Dev nD) : ∃ o : Fin 4, offs o c = d := by revert c d; decide

/-- What every device's result holds of a column of the whole array: the first place of its maximum, the value in row 0 and
    the row's number in row 1. `x` is the column, `X` the whole array that the devices hold the blocks of. -/
theorem outAt_eq (m : (ℓ : Loc nD τ sig) → Buf (Elt Ideal) ℓ) (ρ : Dev nD → PrngReg) (x : Fin 4096 → EReal) (q : Fin 512)
    (hx : ∀ (d : Dev nD) (r : Fin 1024), (xstg m ρ d (ix2 r q : S1024x512.Idx) : EReal) = x ⟨1024 * d.val + r.val, row_lt d r⟩)
    {v : EReal} {w : Fin 4096} (h : First x v w) (c : Dev nD) :
    (outAt m ρ c (ix2 (0 : Fin 2) q : S2x512.Idx) : EReal) = v
      ∧ (outAt m ρ c (ix2 (1 : Fin 2) q : S2x512.Idx) : EReal) = ((w.val : ℝ) : EReal) := by
  choose bv bw hb using fun d : Dev nD => First.exists fun r : Fin 1024 => (xstg m ρ d (ix2 r q : S1024x512.Idx) : EReal)
  have htop : ∀ o : Fin 4, (tops m ρ c (ix3 o (0 : Fin 1) q) : EReal) = bv (offs o c) := fun o =>
    (tops_apply m ρ c o q).trans (pay2_eq _ q (hb _))
  have hbot : ∀ o : Fin 4, (bots m ρ c (ix3 o (0 : Fin 1) q) : EReal) = (((1024 * (offs o c).val + (bw (offs o c)).val : ℕ) : ℝ) : EReal) :=
    fun o => (bots_apply m ρ c o q).trans (pay3_eq _ _ q (hb _))
  -- a block's greatest value is one of the column's
  have hval : ∀ d, bv d = x ⟨1024 * d.val + (bw d).val, row_lt d (bw d)⟩ := fun d => by rw [← hx d (bw d)]; exact (hb d).at_first.symm
  have hle : ∀ d, bv d ≤ v := fun d => by rw [hval d]; exact h.le _
  -- the block of the first place has the column's greatest value, at that place
  have hw := w.isLt
  let d₀ : Dev nD := ⟨w.val / 1024, by show _ < 4; omega⟩
  let r₀ : Fin 1024 := ⟨w.val % 1024, by omega⟩
  have hpos : (⟨1024 * d₀.val + r₀.val, row_lt d₀ r₀⟩ : Fin 4096) = w := Fin.ext (by show 1024 * (w.val / 1024) + w.val % 1024 = _; omega)
  have hat : (xstg m ρ d₀ (ix2 r₀ q : S1024x512.Idx) : EReal) = v := by rw [hx d₀ r₀, hpos]; exact h.at_first
  have hd₀ : bv d₀ = v := le_antisymm (hle d₀) (hat ▸ (hb d₀).le r₀)
  have hge : ∀ d, bv d = v → w.val ≤ 1024 * d.val + (bw d).val := fun d e => h.first _ ((hval d).symm.trans e)
  have hnum : 1024 * d₀.val + (bw d₀).val = w.val := by
    have h1 : (bw d₀).val ≤ w.val % 1024 := (hb d₀).first r₀ (hat.trans hd₀.symm)
    have h2 := hge d₀ hd₀
    have h3 : d₀.val = w.val / 1024 := rfl
    omega
  obtain ⟨o, ho⟩ := offs_surj c d₀
  have a1 : ∀ o : Fin 4, (tops m ρ c (ix3 o (0 : Fin 1) q) : EReal) ≤ v := fun o => (htop o).trans_le (hle _)
  have a2 : (tops m ρ c (ix3 o (0 : Fin 1) q) : EReal) = v := by rw [htop o, ho]; exact hd₀
  constructor
  · exact pay8_eq _ q a1 o a2
  · refine pay9_eq _ _ q a1 o a2 (by rw [hbot o, ho, hnum]) (fun o' e => ?_) ?_
    · rw [hbot o']; rw [htop o'] at e; exact_mod_cast hge _ e
    · exact row_le_bound hw

end Cert.KernelIdeal.Value

end
-- ==== Proof.Value.RefRun.lean ====
/-
# The reference's run

The reference is a line of host operations. What its result holds is their composition.
-/
module

public import proofs.«01_k».proof.Proof.Gen.ReferenceIdeal
public import Idealize.ShloMosaic.Lib.StableHlo.RunHlo
public import Idealize.ShloMosaic.Lib.Quiescent

@[expose] public section

noncomputable section

namespace Cert.ReferenceIdeal.Value

open Cert.ReferenceIdeal Cert.ReferenceIdeal.Gen
open Idealize.ShloMosaic Idealize.ShloMosaic.StableHlo Idealize.ShloMosaic.TcCoe
open Idealize.SL.Sem

variable {F : FTy → Type} [FloatOps F]

/-- The column maxima. -/
def refMax (x : FVec F S4096x512 .bf16) : FVec F S512 .bf16 :=
  Host.reduce FloatOps.maximumf x (constant S_ .bf16 0xFF80#16) reducesTo_S4096x512_S512_d0 h_S_

/-- Where they are attained. -/
def refArg (x : FVec F S4096x512 .bf16) : IVec S512 32 :=
  fun j => (Host.argReduce reducer_argmax_bf16_i32 x (iotaInDim S4096x512 32 0) (constant S_ .bf16 0xFF80#16) (constantI S_ 32 0#32)
    reducesTo_S4096x512_S512_d0 h_S_ j).2

/-- The result: the maxima in row 0, the indices in row 1. -/
def refOut (x : FVec F S4096x512 .bf16) : FVec F S2x512 .f32 :=
  concatenate S2x512 0 [⟨S1x512, broadcastInDim S1x512 ![1] bcast_S512_S1x512_1 (extf .f32 (refMax x) bitsLt_bf16_f32)⟩,
    ⟨S1x512, broadcastInDim S1x512 ![1] bcast_S512_S1x512_1 (sitofp .f32 (refArg x))⟩] concatenates_S1x512_S1x512_S2x512_d0

/-- Every execution of the reference ends with its result at `refOut` of the argument, the argument unchanged. -/
theorem run_ref (m : (ℓ : Loc nD τ sig) → Buf (Elt F) ℓ) (ρ : Dev nD → PrngReg) :
    θ_run defs (onTc (τ := τ) (main (F := F))) ⟨m, fun _ => 0, ρ⟩ (fun r => ∀ d : Dev nD,
      r.2.mem ((d.tc : Thread nD τ).loc main_v6) = refOut (m ((d.tc : Thread nD τ).loc main_arg0))
        ∧ r.2.mem ((d.tc : Thread nD τ).loc main_arg0) = m ((d.tc : Thread nD τ).loc main_arg0)) := by
  refine θ_run_mono (run_hlo _ _ (by
      intro d
      simp only [main, fn_argmax.body, bind_assoc, pure_bind]
      hlo_seq) (by decide) (by decide) (by simp)
      (by intro _ h; (repeat (cases h with | head => rfl | tail _ h => ?_)); exact nomatch h) m ρ) fun r hr d => ⟨?_, ?_⟩
  · rw [hr d main_v6]
    after_results
    rfl
  · rw [hr d main_arg0]
    after_results

/-- The reference ends, its argument unchanged and every counter at zero. -/
theorem frame_ref (m : (ℓ : Loc nD τ sig) → Buf (Elt F) ℓ) (ρ : Dev nD → PrngReg) :
    θ_run defs (onTc (τ := τ) (main (F := F))) ⟨m, fun _ => 0, ρ⟩ (fun r =>
      (∀ d : Dev nD, r.2.mem ((d.tc : Thread nD τ).loc main_arg0) = m ((d.tc : Thread nD τ).loc main_arg0)) ∧ r.2.sem = fun _ => 0) :=
  θ_run_mono (run_ref m ρ) fun r h => ⟨fun d => (h d).2, sem_eq_zero_of_no_sems (by decide) r.2⟩

end Cert.ReferenceIdeal.Value

end
-- ==== Proof.Value.RefValue.lean ====
/-
# What the reference computes of a column

The reference's two reductions find the first place of each column's maximum: one its value, the other its row.
-/
module

public import proofs.«01_k».proof.Proof.Value.RefRun
public import proofs.«01_k».proof.Proof.Value.First
public import Idealize.ShloMosaic.Lib.Pipeline.Value

@[expose] public section

noncomputable section

namespace Cert.ReferenceIdeal.Value

open Cert.ReferenceIdeal Cert.ReferenceIdeal.Gen
open Idealize.ShloMosaic Idealize.ShloMosaic.ValueIdx Idealize.ShloMosaic.TcCoe
open Cert.ColumnMax

/-- Dropping the rows is the same condition for the host's reduction. -/
theorem reduces : S4096x512.Reduces [0] S512 := by decide

/-- The reference's maximum of a column. -/
theorem refMax_eq (x : FVec Ideal S4096x512 .bf16) (q : Fin 512) {v : EReal} {w : Fin 4096}
    (h : First (fun r : Fin 4096 => (x (ix2 r q) : EReal)) v w) : (refMax x (ix1 q) : EReal) = v := by
  rw [refMax, Host.reduce_eq_fold_single _ _ _ _ reduces]
  have e : (constant (F := Ideal) S_ .bf16 0xFF80#16 (Shape.Idx.first h_S_) : EReal) = ⊥ := ofBits_least_narrow
  rw [e]
  exact fold_max_eq (α := Fin 4096) _ _ v (fun r _ => (congrArg x (lift_row reduces q r)).trans_le (h.le r)) (Finset.mem_univ w)
    ((congrArg x (lift_row reduces q w)).trans h.at_first)

/-- The reference's body for the place of a maximum keeps the better of two pairs. -/
theorem reducer_eq (a b : EReal × BitVec 32) : reducer_argmax_bf16_i32 (F := Ideal) a b = better a b := by
  obtain ⟨a, i⟩ := a
  obtain ⟨b, j⟩ := b
  rw [reducer_argmax_bf16_i32, better]
  simp only [Ideal.cmpf_def]
  by_cases h1 : b < a
  · have h2 : ¬ a = b := fun e => absurd h1 (e ▸ lt_irrefl _)
    simp [Ideal.cmp, Scalar.select, IntOp.ori, IntOp.andi, IntOp.cmpi, h1, h2]
  · by_cases h2 : a = b
    · by_cases h3 : i.toInt < j.toInt
      · simp [Ideal.cmp, Scalar.select, IntOp.ori, IntOp.andi, IntOp.cmpi, BitVec.slt, h2, h3]
      · simp [Ideal.cmp, Scalar.select, IntOp.ori, IntOp.andi, IntOp.cmpi, BitVec.slt, h2, h3]
    · simp [Ideal.cmp, Scalar.select, IntOp.ori, IntOp.andi, IntOp.cmpi, h1, h2]

/-- The pairs the reference folds for a column are its rows' values and numbers. -/
theorem mem_fiber (x : FVec Ideal S4096x512 .bf16) (q : Fin 512) (p : EReal × BitVec 32) :
    p ∈ Host.argReduceFiber x (iotaInDim S4096x512 32 0) reducesTo_S4096x512_S512_d0 (ix1 q)
      ↔ ∃ r : Fin 4096, p = (x (ix2 r q), BitVec.ofNat 32 r.val) := by
  rw [Host.argReduceFiber, List.mem_map]
  constructor
  · rintro ⟨n, hn, rfl⟩
    have hd := of_decide_eq_true (List.mem_filter.1 hn).2
    generalize S4096x512.rowMajor.symm n = i at hd
    have hq : (i (1 : Fin 2)).val = q.val :=
      (Shape.ReducesTo.drop_apply_val_of_eq reducesTo_S4096x512_S512_d0 i 0 1).symm.trans (congrArg (fun k : S512.Idx => (k 0).val) hd)
    refine ⟨i (0 : Fin 2), ?_⟩
    have hi : i = ix2 (n0 := 4096) (n1 := 512) (i (0 : Fin 2)) q := (eq_ix2 i).trans (congrArg (ix2 (n0 := 4096) (n1 := 512) (i (0 : Fin 2))) (Fin.ext hq))
    exact Prod.ext (congrArg x hi) rfl
  · rintro ⟨r, rfl⟩
    refine ⟨S4096x512.rowMajor (ix2 r q), List.mem_filter.2 ⟨List.mem_finRange _, decide_eq_true ?_⟩, ?_⟩
    · rw [Equiv.symm_apply_apply]
      refine (eq_ix1 _).trans ?_
      refine congrArg ix1 (Fin.ext ?_)
      exact Shape.ReducesTo.drop_apply_val_of_eq reducesTo_S4096x512_S512_d0 (ix2 r q) 0 1
    · rw [Equiv.symm_apply_apply]; rfl

/-- Over the extended reals a reduction of pairs is the fold over a fiber's list. -/
theorem argReduce_foldl {s t u : Shape} {axes : List (Fin s.rank)} (f : Ideal .bf16 × BitVec 32 → Ideal .bf16 × BitVec 32 → Ideal .bf16 × BitVec 32)
    (x : FVec Ideal s .bf16) (y : IVec s 32) (ix : FVec Ideal u .bf16) (iy : IVec u 32) (h : s.ReducesTo axes t) (hu : 0 < u.numel) :
    (fun j => (Host.argReduce f x y ix iy h hu j).2)
      = fun j => ((Host.argReduceFiber x y h j).foldl f (ix (Shape.Idx.first hu), iy (Shape.Idx.first hu))).2 := by
  funext j
  rw [Ideal.argReduce_eq_reduce2, Host.reduce2_eq_foldl_fiber]

/-- The reference's places are folds of `better`. -/
theorem refArg_fold (x : FVec Ideal S4096x512 .bf16) : refArg x = fun j =>
    ((Host.argReduceFiber x (iotaInDim S4096x512 32 0) reducesTo_S4096x512_S512_d0 j).foldl better (⊥, 0#32)).2 := by
  have hf : (reducer_argmax_bf16_i32 (F := Ideal)) = better := funext fun a => funext fun b => reducer_eq a b
  have hi : (constant (F := Ideal) S_ .bf16 0xFF80#16 (Shape.Idx.first h_S_) : EReal) = ⊥ := ofBits_least_narrow
  have hz : constantI S_ 32 0#32 (Shape.Idx.first h_S_) = 0#32 := rfl
  refine (argReduce_foldl (reducer_argmax_bf16_i32 (F := Ideal)) x (iotaInDim S4096x512 32 0) (constant S_ .bf16 0xFF80#16)
    (constantI S_ 32 0#32) reducesTo_S4096x512_S512_d0 h_S_).trans ?_
  rw [hf, hi, hz]

/-- A pair that is the initial one or some row's, whose value bounds a column's greatest and whose number is at most the first
    place's if the values are equal: its number is the first place. -/
theorem place_eq (x : Fin 4096 → EReal) {v : EReal} {w : Fin 4096} (h : First x v w) (t : EReal × BitVec 32)
    (hmem : t = (⊥, 0#32) ∨ ∃ r : Fin 4096, t = (x r, BitVec.ofNat 32 r.val))
    (hle : v ≤ t.1) (hnum : v = t.1 → t.2.toInt ≤ (w.val : ℤ)) : t.2.toInt = (w.val : ℤ) := by
  rcases hmem with rfl | ⟨r, rfl⟩
  · -- nothing is above the least value: the first row has it
    have hv : v = ⊥ := le_bot_iff.1 hle
    have h0 : w ≤ 0 := h.first 0 ((le_bot_iff.1 (hv ▸ h.le 0)).trans hv.symm)
    have h1 : w.val = 0 := Nat.le_zero.1 h0
    rw [h1]; rfl
  · have hr : x r = v := le_antisymm (h.le r) hle
    have h1 := hnum hr.symm
    have h2 : w.val ≤ r.val := h.first r hr
    simp only [toInt_row le_rfl] at h1 ⊢
    omega

/-- The reference's place of a column's maximum. -/
theorem refArg_eq (x : FVec Ideal S4096x512 .bf16) (q : Fin 512) {v : EReal} {w : Fin 4096}
    (h : First (fun r : Fin 4096 => (x (ix2 r q) : EReal)) v w) : (refArg x (ix1 q)).toInt = (w.val : ℤ) := by
  obtain ⟨hmem, hall⟩ := foldl_better (Host.argReduceFiber x (iotaInDim S4096x512 32 0) reducesTo_S4096x512_S512_d0 (ix1 q))
  have hw := hall _ ((mem_fiber x q _).2 ⟨w, rfl⟩)
  rw [refArg_fold]
  exact place_eq _ h _ (hmem.imp_right (mem_fiber x q _).1) (h.at_first.symm.trans_le hw.1)
    fun e => (hw.2 (h.at_first.trans e)).trans_eq (toInt_row le_rfl w)

/-- A row laid out of a vector. -/
theorem row_apply (y : FVec Ideal S512 .f32) (q : Fin 512) :
    broadcastInDim S1x512 ![1] bcast_S512_S1x512_1 y (ix2 (0 : Fin 1) q) = y (ix1 q) :=
  broadcastInDim_apply _ _ y _ (ix1 q) (by intro a; match a with | ⟨0, _⟩ => rfl)

/-- What the reference's result holds of a column: the first place of its maximum, the value in row 0 and the row's number
    in row 1. -/
theorem refOut_eq (x : FVec Ideal S4096x512 .bf16) (q : Fin 512) {v : EReal} {w : Fin 4096}
    (h : First (fun r : Fin 4096 => (x (ix2 r q) : EReal)) v w) :
    (refOut x (ix2 (0 : Fin 2) q) : EReal) = v ∧ (refOut x (ix2 (1 : Fin 2) q) : EReal) = ((w.val : ℝ) : EReal) := by
  constructor
  · refine (concatenate_pair_apply_left 0 _ _ concatenates_S1x512_S1x512_S2x512_d0 (ix2 (0 : Fin 2) q) rfl (ix2 (0 : Fin 1) q)
      (by intro b; match b with | ⟨0, _⟩ => rfl | ⟨1, _⟩ => rfl)).trans ?_
    rw [row_apply, extf_apply]
    exact refMax_eq x q h
  · have hc := concatenate_pair_apply_right 0
      (broadcastInDim S1x512 ![1] bcast_S512_S1x512_1 (extf .f32 (refMax x) bitsLt_bf16_f32))
      (broadcastInDim S1x512 ![1] bcast_S512_S1x512_1 (sitofp .f32 (refArg x)))
      concatenates_S1x512_S1x512_S2x512_d0 (ix2 (1 : Fin 2) q) rfl rfl (ix2 (0 : Fin 1) q)
      (by intro b hb; match b with | ⟨0, _⟩ => exact absurd rfl hb | ⟨1, _⟩ => rfl) rfl
    refine hc.trans ((row_apply _ q).trans ?_)
    rw [sitofp_apply]
    show (((refArg x (ix1 q)).toInt : ℝ) : EReal) = _
    rw [refArg_eq x q h, Int.cast_natCast]

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.BitsRun.Launch
public import proofs.«01_k».proof.Proof.IdealRun.Launch
public import proofs.«01_k».proof.Proof.Value.KernelValue
public import proofs.«01_k».proof.Proof.Value.RefValue
public import Idealize.ShloMosaic.Adequacy
public import Idealize.ShloMosaic.Init

@[expose] public section

noncomputable section

namespace Cert.Proof

open Idealize.ShloMosaic Idealize.SL.Sem Cert.Kernel

open Idealize.ShloMosaic.ValueIdx Idealize.ShloMosaic.TcCoe Cert.ColumnMax

/-- Row `r` of device `d`'s block is row `1024 d + r` of the whole array. -/
theorem block_row (x : Cert.ReferenceIdeal.S4096x512.Idx → EReal) (d : Fin 4) (r : Fin 1024) (q : Fin 512) :
    Layout.block ⟨2, ![1024, 512]⟩ ⟨2, ![4096, 512]⟩ 0 4 d x (by decide) (ix2 r q)
      = x (ix2 (n0 := 4096) ⟨1024 * d.val + r.val, by omega⟩ q) := by
  refine congrArg x (funext fun a => ?_)
  match a with
  | ⟨0, _⟩ => exact Fin.ext (congrArg (· + r.val) (Nat.mul_comm d.val 1024))
  | ⟨1, _⟩ => exact Fin.ext rfl

/-- Where the devices hold the blocks of an array, each one's result is the reference's of that array. -/
theorem values_eq (m : (ℓ : Loc Cert.KernelIdeal.nD Cert.KernelIdeal.τ Cert.KernelIdeal.sig) → Buf (Elt Ideal) ℓ)
    (ρ : Dev Cert.KernelIdeal.nD → PrngReg) (x : FVec Ideal Cert.ReferenceIdeal.S4096x512 .bf16)
    (hx : ∀ c : Dev Cert.KernelIdeal.nD, m ((c.tc : Thread Cert.KernelIdeal.nD Cert.KernelIdeal.τ).loc Cert.KernelIdeal.main_arg0)
      = Layout.block ⟨2, ![1024, 512]⟩ ⟨2, ![4096, 512]⟩ 0 4 c x (by decide)) (c : Dev Cert.KernelIdeal.nD) :
    Cert.KernelIdeal.Exchange.outAt m ρ c = Cert.ReferenceIdeal.Value.refOut x := by
  funext i
  obtain ⟨a, q, rfl⟩ : ∃ (a : Fin 2) (q : Fin 512), i = ix2 a q := ⟨i (0 : Fin 2), i (1 : Fin 2), eq_ix2 i⟩
  obtain ⟨v, w, h⟩ := First.exists (n := 4095) fun r : Fin 4096 => (x (ix2 r q) : EReal)
  have hk := Cert.KernelIdeal.Value.outAt_eq m ρ _ q (fun d r => by
    rw [Cert.KernelIdeal.Exchange.xstg_eq]
    exact (congrFun (hx d) _).trans (block_row x d r q)) h c
  have hr := Cert.ReferenceIdeal.Value.refOut_eq x q h
  match a with
  | ⟨0, _⟩ => exact hk.1.trans hr.1.symm
  | ⟨1, _⟩ => exact hk.2.trans hr.2.symm

theorem claim : Cert.Claim := ⟨Cert.Kernel.Gen.facts, Cert.KernelIdeal.Gen.facts, Cert.ReferenceIdeal.Gen.facts, by
  refine ⟨fun m g _ => θ_run_mono (Cert.Kernel.Exchange.run_values (F := Bits) m g) fun r h => ⟨fun c => (h.1 c).2, h.2⟩,
    fun m g _ => θ_run_mono (Cert.KernelIdeal.Exchange.run_values (F := Ideal) m g) fun r h => ⟨fun c => (h.1 c).2, h.2⟩,
    fun m g _ => Cert.ReferenceIdeal.Value.frame_ref (F := Ideal) m g, trivial, ?_⟩
  intro m g m' g' _ hx
  refine ⟨Cert.ReferenceIdeal.Value.refOut (F := Ideal) (m' (((0 : Dev Cert.ReferenceIdeal.nD).tc : Thread Cert.ReferenceIdeal.nD Cert.ReferenceIdeal.τ).loc Cert.ReferenceIdeal.main_arg0)), ?_, ?_⟩
  · exact θ_run_mono (Cert.KernelIdeal.Exchange.run_values (F := Ideal) m g) fun r h c => ⟨(h.1 c).1.trans (values_eq m g _ hx c), (h.1 c).2⟩
  · exact θ_run_mono (Cert.ReferenceIdeal.Value.run_ref (F := Ideal) m' g') fun r h => h 0⟩

end Cert.Proof

end
